-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_eleven_nearest_distinct [hPre_eleven_nearest_distinct : Cert.Pre_eleven_nearest_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_eleven_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_eleven_nearest_distinct [hPre_eleven_nearest_distinct : Cert.Pre_eleven_nearest_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_eleven_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_eleven_nearest_distinct [hKernelIdeal : Cert.KernelIdeal.Facts] [hPre_eleven_nearest_distinct : Cert.Pre_eleven_nearest_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_eleven_nearest_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_eleven_nearest_distinct [hReferenceIdeal : Cert.ReferenceIdeal.Facts] [hPre_eleven_nearest_distinct : Cert.Pre_eleven_nearest_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_eleven_nearest_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_eleven_nearest_distinct [hKernelIdeal : Cert.KernelIdeal.Facts] [hReferenceIdeal : Cert.ReferenceIdeal.Facts] [hPre_eleven_nearest_distinct : Cert.Pre_eleven_nearest_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_eleven_nearest_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_eleven_nearest_distinct : Cert.Pre_eleven_nearest_distinct.Facts),
    quiescent_Kernel (hKernel := hKernel)
    ∧ quiescent_KernelIdeal (hKernelIdeal := hKernelIdeal)
    ∧ quiescent_KernelIdeal_pre_eleven_nearest_distinct (hKernelIdeal := hKernelIdeal) (hPre_eleven_nearest_distinct := hPre_eleven_nearest_distinct)
    ∧ quiescent_ReferenceIdeal (hReferenceIdeal := hReferenceIdeal)
    ∧ quiescent_ReferenceIdeal_pre_eleven_nearest_distinct (hReferenceIdeal := hReferenceIdeal) (hPre_eleven_nearest_distinct := hPre_eleven_nearest_distinct)
    ∧ preserves_Kernel_KernelIdeal
    ∧ algebraic_KernelIdeal_ReferenceIdeal_pre_eleven_nearest_distinct (hKernelIdeal := hKernelIdeal) (hReferenceIdeal := hReferenceIdeal) (hPre_eleven_nearest_distinct := hPre_eleven_nearest_distinct)
-- ==== Pre_eleven_nearest_distinct.lean ====
abbrev S1x1x16x32x32 : Shape := ⟨5, ![1, 1, 16, 32, 32]⟩
abbrev S16x2x3x3x3 : Shape := ⟨5, ![16, 2, 3, 3, 3]⟩
abbrev S16 : Shape := ⟨1, ![16]⟩
abbrev S32x16x3x3x3 : Shape := ⟨5, ![32, 16, 3, 3, 3]⟩
abbrev S32 : Shape := ⟨1, ![32]⟩
abbrev S8x32x1x1x1 : Shape := ⟨5, ![8, 32, 1, 1, 1]⟩
abbrev S8 : Shape := ⟨1, ![8]⟩
abbrev S4096x8 : Shape := ⟨2, ![4096, 8]⟩
abbrev S4096 : Shape := ⟨1, ![4096]⟩
abbrev S_ : Shape := ⟨0, ![]⟩
abbrev S8x4096 : Shape := ⟨2, ![8, 4096]⟩
abbrev S1x4096 : Shape := ⟨2, ![1, 4096]⟩
abbrev S8x32 : Shape := ⟨2, ![8, 32]⟩
abbrev S1x2x16x32x32 : Shape := ⟨5, ![1, 2, 16, 32, 32]⟩
abbrev S2x16x32x32 : Shape := ⟨4, ![2, 16, 32, 32]⟩
abbrev S2x18x34x34 : Shape := ⟨4, ![2, 18, 34, 34]⟩
abbrev S2x16x34x34 : Shape := ⟨4, ![2, 16, 34, 34]⟩
abbrev S2x1x16x34x34 : Shape := ⟨5, ![2, 1, 16, 34, 34]⟩
abbrev S2x3x16x34x34 : Shape := ⟨5, ![2, 3, 16, 34, 34]⟩
abbrev S2x3x16x32x34 : Shape := ⟨5, ![2, 3, 16, 32, 34]⟩
abbrev S2x3x1x16x32x34 : Shape := ⟨6, ![2, 3, 1, 16, 32, 34]⟩
abbrev S2x3x3x16x32x34 : Shape := ⟨6, ![2, 3, 3, 16, 32, 34]⟩
abbrev S2x3x3x16x32x32 : Shape := ⟨6, ![2, 3, 3, 16, 32, 32]⟩
abbrev S2x3x3x1x16x32x32 : Shape := ⟨7, ![2, 3, 3, 1, 16, 32, 32]⟩
abbrev S2x3x3x3x16x32x32 : Shape := ⟨7, ![2, 3, 3, 3, 16, 32, 32]⟩
abbrev S16x16x32x32 : Shape := ⟨4, ![16, 16, 32, 32]⟩
abbrev S1x16x16x32x32 : Shape := ⟨5, ![1, 16, 16, 32, 32]⟩
abbrev S1x16x1x1x1 : Shape := ⟨5, ![1, 16, 1, 1, 1]⟩
abbrev S16x18x34x34 : Shape := ⟨4, ![16, 18, 34, 34]⟩
abbrev S16x16x34x34 : Shape := ⟨4, ![16, 16, 34, 34]⟩
abbrev S16x1x16x34x34 : Shape := ⟨5, ![16, 1, 16, 34, 34]⟩
abbrev S16x3x16x34x34 : Shape := ⟨5, ![16, 3, 16, 34, 34]⟩
abbrev S16x3x16x32x34 : Shape := ⟨5, ![16, 3, 16, 32, 34]⟩
abbrev S16x3x1x16x32x34 : Shape := ⟨6, ![16, 3, 1, 16, 32, 34]⟩
abbrev S16x3x3x16x32x34 : Shape := ⟨6, ![16, 3, 3, 16, 32, 34]⟩
abbrev S16x3x3x16x32x32 : Shape := ⟨6, ![16, 3, 3, 16, 32, 32]⟩
abbrev S16x3x3x1x16x32x32 : Shape := ⟨7, ![16, 3, 3, 1, 16, 32, 32]⟩
abbrev S16x3x3x3x16x32x32 : Shape := ⟨7, ![16, 3, 3, 3, 16, 32, 32]⟩
abbrev S32x16x32x32 : Shape := ⟨4, ![32, 16, 32, 32]⟩
abbrev S1x32x16x32x32 : Shape := ⟨5, ![1, 32, 16, 32, 32]⟩
abbrev S1x32x1x1x1 : Shape := ⟨5, ![1, 32, 1, 1, 1]⟩
abbrev S1x16x32x32x8 : Shape := ⟨5, ![1, 16, 32, 32, 8]⟩
abbrev S1x8x16x32x32 : Shape := ⟨5, ![1, 8, 16, 32, 32]⟩
abbrev S1x8x1x1x1 : Shape := ⟨5, ![1, 8, 1, 1, 1]⟩
abbrev S1x16x32x32 : Shape := ⟨4, ![1, 16, 32, 32]⟩
abbrev S16384x8 : Shape := ⟨2, ![16384, 8]⟩
abbrev S16384 : Shape := ⟨1, ![16384]⟩
abbrev S16384x1 : Shape := ⟨2, ![16384, 1]⟩
abbrev S16384x4096 : Shape := ⟨2, ![16384, 4096]⟩
abbrev S16384x11 : Shape := ⟨2, ![16384, 11]⟩
abbrev S16384x10 : Shape := ⟨2, ![16384, 10]⟩

class Facts : Prop where
  transposes_S4096x8_S8x4096_1_0 : S4096x8.Transposes [1, 0] S8x4096
  reducesTo_S4096x8_S4096_d1 : S4096x8.ReducesTo [1] S4096
  h_S_ : 0 < S_.numel
  bcast_S4096_S1x4096_1 : S4096.BroadcastsInDim S1x4096 (![1] : Fin 1 → Fin S1x4096.rank)
  shapeCasts_S8x32x1x1x1_S8x32 : S8x32x1x1x1.ShapeCasts S8x32
  concatenates_S1x1x16x32x32_S1x1x16x32x32_S1x2x16x32x32_d1 : Shape.Concatenates [S1x1x16x32x32, S1x1x16x32x32] S1x2x16x32x32 1
  shapeCasts_S1x2x16x32x32_S2x16x32x32 : S1x2x16x32x32.ShapeCasts S2x16x32x32
  pads_S2x16x32x32_S2x18x34x34_000_110_110_110 : S2x16x32x32.Pads (![0, 1, 1, 1] : Fin 4 → Nat) ![0, 1, 1, 1] ![0, 0, 0, 0] S2x18x34x34
  slices_S2x18x34x34_S2x16x34x34_0_0_0_0 : S2x18x34x34.Slices ![0, 0, 0, 0] S2x16x34x34
  slices_S2x18x34x34_S2x16x34x34_0_1_0_0 : S2x18x34x34.Slices ![0, 1, 0, 0] S2x16x34x34
  slices_S2x18x34x34_S2x16x34x34_0_2_0_0 : S2x18x34x34.Slices ![0, 2, 0, 0] S2x16x34x34
  bcast_S2x16x34x34_S2x1x16x34x34_0_2_3_4 : S2x16x34x34.BroadcastsInDim S2x1x16x34x34 (![0, 2, 3, 4] : Fin 4 → Fin S2x1x16x34x34.rank)
  concatenates_S2x1x16x34x34_S2x1x16x34x34_S2x1x16x34x34_S2x3x16x34x34_d1 : Shape.Concatenates [S2x1x16x34x34, S2x1x16x34x34, S2x1x16x34x34] S2x3x16x34x34 1
  slices_S2x3x16x34x34_S2x3x16x32x34_0_0_0_0_0 : S2x3x16x34x34.Slices ![0, 0, 0, 0, 0] S2x3x16x32x34
  slices_S2x3x16x34x34_S2x3x16x32x34_0_0_0_1_0 : S2x3x16x34x34.Slices ![0, 0, 0, 1, 0] S2x3x16x32x34
  slices_S2x3x16x34x34_S2x3x16x32x34_0_0_0_2_0 : S2x3x16x34x34.Slices ![0, 0, 0, 2, 0] S2x3x16x32x34
  bcast_S2x3x16x32x34_S2x3x1x16x32x34_0_1_3_4_5 : S2x3x16x32x34.BroadcastsInDim S2x3x1x16x32x34 (![0, 1, 3, 4, 5] : Fin 5 → Fin S2x3x1x16x32x34.rank)
  concatenates_S2x3x1x16x32x34_S2x3x1x16x32x34_S2x3x1x16x32x34_S2x3x3x16x32x34_d2 : Shape.Concatenates [S2x3x1x16x32x34, S2x3x1x16x32x34, S2x3x1x16x32x34] S2x3x3x16x32x34 2
  slices_S2x3x3x16x32x34_S2x3x3x16x32x32_0_0_0_0_0_0 : S2x3x3x16x32x34.Slices ![0, 0, 0, 0, 0, 0] S2x3x3x16x32x32
  slices_S2x3x3x16x32x34_S2x3x3x16x32x32_0_0_0_0_0_1 : S2x3x3x16x32x34.Slices ![0, 0, 0, 0, 0, 1] S2x3x3x16x32x32
  slices_S2x3x3x16x32x34_S2x3x3x16x32x32_0_0_0_0_0_2 : S2x3x3x16x32x34.Slices ![0, 0, 0, 0, 0, 2] S2x3x3x16x32x32
  bcast_S2x3x3x16x32x32_S2x3x3x1x16x32x32_0_1_2_4_5_6 : S2x3x3x16x32x32.BroadcastsInDim S2x3x3x1x16x32x32 (![0, 1, 2, 4, 5, 6] : Fin 6 → Fin S2x3x3x1x16x32x32.rank)
  concatenates_S2x3x3x1x16x32x32_S2x3x3x1x16x32x32_S2x3x3x1x16x32x32_S2x3x3x3x16x32x32_d3 : Shape.Concatenates [S2x3x3x1x16x32x32, S2x3x3x1x16x32x32, S2x3x3x1x16x32x32] S2x3x3x3x16x32x32 3
  bcast_S16x16x32x32_S1x16x16x32x32_1_2_3_4 : S16x16x32x32.BroadcastsInDim S1x16x16x32x32 (![1, 2, 3, 4] : Fin 4 → Fin S1x16x16x32x32.rank)
  bcast_S16_S1x16x1x1x1_1 : S16.BroadcastsInDim S1x16x1x1x1 (![1] : Fin 1 → Fin S1x16x1x1x1.rank)
  bcast_S1x16x1x1x1_S1x16x16x32x32_0_1_2_3_4 : S1x16x1x1x1.BroadcastsInDim S1x16x16x32x32 (![0, 1, 2, 3, 4] : Fin 5 → Fin S1x16x16x32x32.rank)
  reducesTo_S1x16x16x32x32_S16_d0_2_3_4 : S1x16x16x32x32.ReducesTo [0, 2, 3, 4] S16
  bcast_S_S1x16x1x1x1 : S_.BroadcastsInDim S1x16x1x1x1 (![] : Fin 0 → Fin S1x16x1x1x1.rank)
  bcast_S_S1x16x16x32x32 : S_.BroadcastsInDim S1x16x16x32x32 (![] : Fin 0 → Fin S1x16x16x32x32.rank)
  shapeCasts_S1x16x16x32x32_S16x16x32x32 : S1x16x16x32x32.ShapeCasts S16x16x32x32
  pads_S16x16x32x32_S16x18x34x34_000_110_110_110 : S16x16x32x32.Pads (![0, 1, 1, 1] : Fin 4 → Nat) ![0, 1, 1, 1] ![0, 0, 0, 0] S16x18x34x34
  slices_S16x18x34x34_S16x16x34x34_0_0_0_0 : S16x18x34x34.Slices ![0, 0, 0, 0] S16x16x34x34
  slices_S16x18x34x34_S16x16x34x34_0_1_0_0 : S16x18x34x34.Slices ![0, 1, 0, 0] S16x16x34x34
  slices_S16x18x34x34_S16x16x34x34_0_2_0_0 : S16x18x34x34.Slices ![0, 2, 0, 0] S16x16x34x34
  bcast_S16x16x34x34_S16x1x16x34x34_0_2_3_4 : S16x16x34x34.BroadcastsInDim S16x1x16x34x34 (![0, 2, 3, 4] : Fin 4 → Fin S16x1x16x34x34.rank)
  concatenates_S16x1x16x34x34_S16x1x16x34x34_S16x1x16x34x34_S16x3x16x34x34_d1 : Shape.Concatenates [S16x1x16x34x34, S16x1x16x34x34, S16x1x16x34x34] S16x3x16x34x34 1
  slices_S16x3x16x34x34_S16x3x16x32x34_0_0_0_0_0 : S16x3x16x34x34.Slices ![0, 0, 0, 0, 0] S16x3x16x32x34
  slices_S16x3x16x34x34_S16x3x16x32x34_0_0_0_1_0 : S16x3x16x34x34.Slices ![0, 0, 0, 1, 0] S16x3x16x32x34
  slices_S16x3x16x34x34_S16x3x16x32x34_0_0_0_2_0 : S16x3x16x34x34.Slices ![0, 0, 0, 2, 0] S16x3x16x32x34
  bcast_S16x3x16x32x34_S16x3x1x16x32x34_0_1_3_4_5 : S16x3x16x32x34.BroadcastsInDim S16x3x1x16x32x34 (![0, 1, 3, 4, 5] : Fin 5 → Fin S16x3x1x16x32x34.rank)
  concatenates_S16x3x1x16x32x34_S16x3x1x16x32x34_S16x3x1x16x32x34_S16x3x3x16x32x34_d2 : Shape.Concatenates [S16x3x1x16x32x34, S16x3x1x16x32x34, S16x3x1x16x32x34] S16x3x3x16x32x34 2
  slices_S16x3x3x16x32x34_S16x3x3x16x32x32_0_0_0_0_0_0 : S16x3x3x16x32x34.Slices ![0, 0, 0, 0, 0, 0] S16x3x3x16x32x32
  slices_S16x3x3x16x32x34_S16x3x3x16x32x32_0_0_0_0_0_1 : S16x3x3x16x32x34.Slices ![0, 0, 0, 0, 0, 1] S16x3x3x16x32x32
  slices_S16x3x3x16x32x34_S16x3x3x16x32x32_0_0_0_0_0_2 : S16x3x3x16x32x34.Slices ![0, 0, 0, 0, 0, 2] S16x3x3x16x32x32
  bcast_S16x3x3x16x32x32_S16x3x3x1x16x32x32_0_1_2_4_5_6 : S16x3x3x16x32x32.BroadcastsInDim S16x3x3x1x16x32x32 (![0, 1, 2, 4, 5, 6] : Fin 6 → Fin S16x3x3x1x16x32x32.rank)
  concatenates_S16x3x3x1x16x32x32_S16x3x3x1x16x32x32_S16x3x3x1x16x32x32_S16x3x3x3x16x32x32_d3 : Shape.Concatenates [S16x3x3x1x16x32x32, S16x3x3x1x16x32x32, S16x3x3x1x16x32x32] S16x3x3x3x16x32x32 3
  bcast_S32x16x32x32_S1x32x16x32x32_1_2_3_4 : S32x16x32x32.BroadcastsInDim S1x32x16x32x32 (![1, 2, 3, 4] : Fin 4 → Fin S1x32x16x32x32.rank)
  bcast_S32_S1x32x1x1x1_1 : S32.BroadcastsInDim S1x32x1x1x1 (![1] : Fin 1 → Fin S1x32x1x1x1.rank)
  bcast_S1x32x1x1x1_S1x32x16x32x32_0_1_2_3_4 : S1x32x1x1x1.BroadcastsInDim S1x32x16x32x32 (![0, 1, 2, 3, 4] : Fin 5 → Fin S1x32x16x32x32.rank)
  reducesTo_S1x32x16x32x32_S32_d0_2_3_4 : S1x32x16x32x32.ReducesTo [0, 2, 3, 4] S32
  bcast_S_S1x32x1x1x1 : S_.BroadcastsInDim S1x32x1x1x1 (![] : Fin 0 → Fin S1x32x1x1x1.rank)
  bcast_S_S1x32x16x32x32 : S_.BroadcastsInDim S1x32x16x32x32 (![] : Fin 0 → Fin S1x32x16x32x32.rank)
  transposes_S1x16x32x32x8_S1x8x16x32x32_0_4_1_2_3 : S1x16x32x32x8.Transposes [0, 4, 1, 2, 3] S1x8x16x32x32
  bcast_S8_S1x8x1x1x1_1 : S8.BroadcastsInDim S1x8x1x1x1 (![1] : Fin 1 → Fin S1x8x1x1x1.rank)
  bcast_S1x8x1x1x1_S1x8x16x32x32_0_1_2_3_4 : S1x8x1x1x1.BroadcastsInDim S1x8x16x32x32 (![0, 1, 2, 3, 4] : Fin 5 → Fin S1x8x16x32x32.rank)
  reducesTo_S1x8x16x32x32_S1x16x32x32_d1 : S1x8x16x32x32.ReducesTo [1] S1x16x32x32
  bcast_S1x16x32x32_S1x1x16x32x32_0_2_3_4 : S1x16x32x32.BroadcastsInDim S1x1x16x32x32 (![0, 2, 3, 4] : Fin 4 → Fin S1x1x16x32x32.rank)
  bcast_S_S1x1x16x32x32 : S_.BroadcastsInDim S1x1x16x32x32 (![] : Fin 0 → Fin S1x1x16x32x32.rank)
  bcast_S1x1x16x32x32_S1x8x16x32x32_0_1_2_3_4 : S1x1x16x32x32.BroadcastsInDim S1x8x16x32x32 (![0, 1, 2, 3, 4] : Fin 5 → Fin S1x8x16x32x32.rank)
  transposes_S1x8x16x32x32_S1x16x32x32x8_0_2_3_4_1 : S1x8x16x32x32.Transposes [0, 2, 3, 4, 1] S1x16x32x32x8
  shapeCasts_S1x16x32x32x8_S16384x8 : S1x16x32x32x8.ShapeCasts S16384x8
  reducesTo_S16384x8_S16384_d1 : S16384x8.ReducesTo [1] S16384
  bcast_S16384_S16384x1_0 : S16384.BroadcastsInDim S16384x1 (![0] : Fin 1 → Fin S16384x1.rank)
  bcast_S_S16384x4096 : S_.BroadcastsInDim S16384x4096 (![] : Fin 0 → Fin S16384x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  sliceFits_S16384x4096_S16384x11 : S16384x4096.Slices (fun _ => 0) S16384x11
  slices_S16384x11_S16384x10_0_0 : S16384x11.Slices ![0, 0] S16384x10
  slices_S16384x11_S16384x10_0_1 : S16384x11.Slices ![0, 1] S16384x10
  dot_S16x2x3x3x3_S2x3x3x3x16x32x32_S16x16x32x32_1432_0321_0_456_n_n_wf : DotDims.WF S16x2x3x3x3 S2x3x3x3x16x32x32 S16x16x32x32 [1, 4, 3, 2] [0, 3, 2, 1] [0] [4, 5, 6] [] []
  dot_S32x16x3x3x3_S16x3x3x3x16x32x32_S32x16x32x32_1432_0321_0_456_n_n_wf : DotDims.WF S32x16x3x3x3 S16x3x3x3x16x32x32 S32x16x32x32 [1, 4, 3, 2] [0, 3, 2, 1] [0] [4, 5, 6] [] []
  dot_S1x32x16x32x32_S8x32_S1x16x32x32x8_1_1_0234_0_n_n_wf : DotDims.WF S1x32x16x32x32 S8x32 S1x16x32x32x8 [1] [1] [0, 2, 3, 4] [0] [] []
  dot_S16384x8_S8x4096_S16384x4096_1_0_0_1_n_n_wf : DotDims.WF S16384x8 S8x4096 S16384x4096 [1] [0] [0] [1] [] []

variable [Facts]

def dot_S16x2x3x3x3_S2x3x3x3x16x32x32_S16x16x32x32_1432_0321_0_456_n_n : DotDims S16x2x3x3x3 S2x3x3x3x16x32x32 S16x16x32x32 where
  lhsContracting := [1, 4, 3, 2]
  rhsContracting := [0, 3, 2, 1]
  lhsNonContracting := [0]
  rhsNonContracting := [4, 5, 6]
  lhsBatch := []
  rhsBatch := []
  wf := dot_S16x2x3x3x3_S2x3x3x3x16x32x32_S16x16x32x32_1432_0321_0_456_n_n_wf
def dot_S32x16x3x3x3_S16x3x3x3x16x32x32_S32x16x32x32_1432_0321_0_456_n_n : DotDims S32x16x3x3x3 S16x3x3x3x16x32x32 S32x16x32x32 where
  lhsContracting := [1, 4, 3, 2]
  rhsContracting := [0, 3, 2, 1]
  lhsNonContracting := [0]
  rhsNonContracting := [4, 5, 6]
  lhsBatch := []
  rhsBatch := []
  wf := dot_S32x16x3x3x3_S16x3x3x3x16x32x32_S32x16x32x32_1432_0321_0_456_n_n_wf
def dot_S1x32x16x32x32_S8x32_S1x16x32x32x8_1_1_0234_0_n_n : DotDims S1x32x16x32x32 S8x32 S1x16x32x32x8 where
  lhsContracting := [1]
  rhsContracting := [1]
  lhsNonContracting := [0, 2, 3, 4]
  rhsNonContracting := [0]
  lhsBatch := []
  rhsBatch := []
  wf := dot_S1x32x16x32x32_S8x32_S1x16x32x32x8_1_1_0234_0_n_n_wf
def dot_S16384x8_S8x4096_S16384x4096_1_0_0_1_n_n : DotDims S16384x8 S8x4096 S16384x4096 where
  lhsContracting := [1]
  rhsContracting := [0]
  lhsNonContracting := [0]
  rhsNonContracting := [1]
  lhsBatch := []
  rhsBatch := []
  wf := dot_S16384x8_S8x4096_S16384x4096_1_0_0_1_n_n_wf
def fn_pad {F : FTy → Type} [FloatOps F] (arg0 : FVec F S2x16x32x32 .f32) (arg1 : IVec S_ 32) : FVec F S2x18x34x34 .f32 :=
  let v0 : FVec F S_ .f32 := sitofp .f32 arg1
  let v1 : FVec F S2x18x34x34 .f32 := (fun x v => pad S2x18x34x34 ![0, 1, 1, 1] ![0, 1, 1, 1] ![0, 0, 0, 0] x v pads_S2x16x32x32_S2x18x34x34_000_110_110_110 h_S_) arg0 v0
  v1

def fn_where {F : FTy → Type} [FloatOps F] (arg0 : IVec S_ 1) (arg1 : FVec F S1x16x1x1x1 .f32) (arg2 : FVec F S_ .f32) : FVec F S1x16x1x1x1 .f32 :=
  let v0 : FVec F S_ .f32 := id arg2
  let v1 : FVec F S1x16x1x1x1 .f32 := broadcastInDim S1x16x1x1x1 ![] bcast_S_S1x16x1x1x1 v0
  let v2 : FVec F S1x16x1x1x1 .f32 := (fun p a b => select (broadcastInDim S1x16x1x1x1 ![] bcast_S_S1x16x1x1x1 p) a b) arg0 arg1 v1
  v2

def fn_var {F : FTy → Type} [FloatOps F] (arg0 : FVec F S1x16x16x32x32 .f32) (arg1 : IVec S_ 32) : FVec F S1x16x1x1x1 .f32 :=
  let cst : FVec F S_ .f32 := constant S_ .f32 0x00000000#32
  let v0 : FVec F S16 .f32 := (fun x v => Host.reduceAdd x v reducesTo_S1x16x16x32x32_S16_d0_2_3_4 h_S_) arg0 cst
  let v1 : FVec F S1x16x1x1x1 .f32 := broadcastInDim S1x16x1x1x1 ![1] bcast_S16_S1x16x1x1x1_1 v0
  let cst_0 : FVec F S_ .f32 := constant S_ .f32 0x46800000#32
  let v2 : FVec F S1x16x1x1x1 .f32 := broadcastInDim S1x16x1x1x1 ![] bcast_S_S1x16x1x1x1 cst_0
  let v3 : FVec F S1x16x1x1x1 .f32 := Host.divf v1 v2
  let v4 : FVec F S1x16x16x32x32 .f32 := broadcastInDim S1x16x16x32x32 ![0, 1, 2, 3, 4] bcast_S1x16x1x1x1_S1x16x16x32x32_0_1_2_3_4 v3
  let v5 : FVec F S1x16x16x32x32 .f32 := subf arg0 v4
  let v6 : FVec F S1x16x16x32x32 .f32 := mulf v5 v5
  let v7 : FVec F S_ .f32 := sitofp .f32 arg1
  let cst_1 : FVec F S_ .f32 := constant S_ .f32 0x46800000#32
  let v8 : FVec F S_ .f32 := subf cst_1 v7
  let cst_2 : FVec F S_ .f32 := constant S_ .f32 0x00000000#32
  let v9 : FVec F S16 .f32 := (fun x v => Host.reduceAdd x v reducesTo_S1x16x16x32x32_S16_d0_2_3_4 h_S_) v6 cst_2
  let v10 : FVec F S1x16x1x1x1 .f32 := broadcastInDim S1x16x1x1x1 ![1] bcast_S16_S1x16x1x1x1_1 v9
  let v11 : FVec F S1x16x1x1x1 .f32 := broadcastInDim S1x16x1x1x1 ![] bcast_S_S1x16x1x1x1 v8
  let v12 : FVec F S1x16x1x1x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1x16x1x1x1 .f32 := fn_where (F := F) v13 v12 cst_4
  v14

def fn_relu {F : FTy → Type} [FloatOps F] (arg0 : FVec F S1x16x16x32x32 .f32) : FVec F S1x16x16x32x32 .f32 :=
  let cst : FVec F S_ .f32 := constant S_ .f32 0x00000000#32
  let v0 : FVec F S1x16x16x32x32 .f32 := broadcastInDim S1x16x16x32x32 ![] bcast_S_S1x16x16x32x32 cst
  let v1 : FVec F S1x16x16x32x32 .f32 := maximumf arg0 v0
  v1

def fn_pad_0 {F : FTy → Type} [FloatOps F] (arg0 : FVec F S16x16x32x32 .f32) (arg1 : IVec S_ 32) : FVec F S16x18x34x34 .f32 :=
  let v0 : FVec F S_ .f32 := sitofp .f32 arg1
  let v1 : FVec F S16x18x34x34 .f32 := (fun x v => pad S16x18x34x34 ![0, 1, 1, 1] ![0, 1, 1, 1] ![0, 0, 0, 0] x v pads_S16x16x32x32_S16x18x34x34_000_110_110_110 h_S_) arg0 v0
  v1

def fn_where_2 {F : FTy → Type} [FloatOps F] (arg0 : IVec S_ 1) (arg1 : FVec F S1x32x1x1x1 .f32) (arg2 : FVec F S_ .f32) : FVec F S1x32x1x1x1 .f32 :=
  let v0 : FVec F S_ .f32 := id arg2
  let v1 : FVec F S1x32x1x1x1 .f32 := broadcastInDim S1x32x1x1x1 ![] bcast_S_S1x32x1x1x1 v0
  let v2 : FVec F S1x32x1x1x1 .f32 := (fun p a b => select (broadcastInDim S1x32x1x1x1 ![] bcast_S_S1x32x1x1x1 p) a b) arg0 arg1 v1
  v2

def fn_var_1 {F : FTy → Type} [FloatOps F] (arg0 : FVec F S1x32x16x32x32 .f32) (arg1 : IVec S_ 32) : FVec F S1x32x1x1x1 .f32 :=
  let cst : FVec F S_ .f32 := constant S_ .f32 0x00000000#32
  let v0 : FVec F S32 .f32 := (fun x v => Host.reduceAdd x v reducesTo_S1x32x16x32x32_S32_d0_2_3_4 h_S_) arg0 cst
  let v1 : FVec F S1x32x1x1x1 .f32 := broadcastInDim S1x32x1x1x1 ![1] bcast_S32_S1x32x1x1x1_1 v0
  let cst_0 : FVec F S_ .f32 := constant S_ .f32 0x46800000#32
  let v2 : FVec F S1x32x1x1x1 .f32 := broadcastInDim S1x32x1x1x1 ![] bcast_S_S1x32x1x1x1 cst_0
  let v3 : FVec F S1x32x1x1x1 .f32 := Host.divf v1 v2
  let v4 : FVec F S1x32x16x32x32 .f32 := broadcastInDim S1x32x16x32x32 ![0, 1, 2, 3, 4] bcast_S1x32x1x1x1_S1x32x16x32x32_0_1_2_3_4 v3
  let v5 : FVec F S1x32x16x32x32 .f32 := subf arg0 v4
  let v6 : FVec F S1x32x16x32x32 .f32 := mulf v5 v5
  let v7 : FVec F S_ .f32 := sitofp .f32 arg1
  let cst_1 : FVec F S_ .f32 := constant S_ .f32 0x46800000#32
  let v8 : FVec F S_ .f32 := subf cst_1 v7
  let cst_2 : FVec F S_ .f32 := constant S_ .f32 0x00000000#32
  let v9 : FVec F S32 .f32 := (fun x v => Host.reduceAdd x v reducesTo_S1x32x16x32x32_S32_d0_2_3_4 h_S_) v6 cst_2
  let v10 : FVec F S1x32x1x1x1 .f32 := broadcastInDim S1x32x1x1x1 ![1] bcast_S32_S1x32x1x1x1_1 v9
  let v11 : FVec F S1x32x1x1x1 .f32 := broadcastInDim S1x32x1x1x1 ![] bcast_S_S1x32x1x1x1 v8
  let v12 : FVec F S1x32x1x1x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1x32x1x1x1 .f32 := fn_where_2 (F := F) v13 v12 cst_4
  v14

def fn_relu_3 {F : FTy → Type} [FloatOps F] (arg0 : FVec F S1x32x16x32x32 .f32) : FVec F S1x32x16x32x32 .f32 :=
  let cst : FVec F S_ .f32 := constant S_ .f32 0x00000000#32
  let v0 : FVec F S1x32x16x32x32 .f32 := broadcastInDim S1x32x16x32x32 ![] bcast_S_S1x32x16x32x32 cst
  let v1 : FVec F S1x32x16x32x32 .f32 := maximumf arg0 v0
  v1

def fn_part6 {F : FTy → Type} [FloatOps F] (main_v126 : FVec F S16384x11 .f32) : IVec S16384x10 1 :=
  let main_v127 : FVec F S16384x10 .f32 := (extractStridedSlice S16384x10 ![0, 0] · slices_S16384x11_S16384x10_0_0) main_v126
  let main_v128 : FVec F S16384x10 .f32 := (extractStridedSlice S16384x10 ![0, 1] · slices_S16384x11_S16384x10_0_1) main_v126
  let main_v129 : IVec S16384x10 1 := cmpf .olt main_v127 main_v128
  main_v129

def fn_part5 {F : FTy → Type} [FloatOps F] (main_v0 : FVec F S8x4096 .f32) (main_v3 : FVec F S1x4096 .f32) (main_v104 : FVec F S1x8x16x32x32 .f32) (main_v107 : FVec F S1x1x16x32x32 .f32) : IVec S16384x10 1 :=
  let main_v108 : FVec F S1x1x16x32x32 .f32 := Host.sqrt main_v107
  let main_cst_10 : FVec F S_ .f32 := constant S_ .f32 0x2B8CBCCC#32
  let main_v109 : FVec F S1x1x16x32x32 .f32 := broadcastInDim S1x1x16x32x32 ![] bcast_S_S1x1x16x32x32 main_cst_10
  let main_v110 : FVec F S1x1x16x32x32 .f32 := maximumf main_v108 main_v109
  let main_v111 : FVec F S1x8x16x32x32 .f32 := broadcastInDim S1x8x16x32x32 ![0, 1, 2, 3, 4] bcast_S1x1x16x32x32_S1x8x16x32x32_0_1_2_3_4 main_v110
  let main_v112 : FVec F S1x8x16x32x32 .f32 := Host.divf main_v104 main_v111
  let main_v113 : FVec F S1x16x32x32x8 .f32 := (transpose S1x16x32x32x8 [0, 2, 3, 4, 1] · transposes_S1x8x16x32x32_S1x16x32x32x8_0_2_3_4_1) main_v112
  let main_v114 : FVec F S16384x8 .f32 := shapeCast S16384x8 main_v113 shapeCasts_S1x16x32x32x8_S16384x8
  let main_v115 : FVec F S16384x8 .f32 := mulf main_v114 main_v114
  let main_cst_11 : FVec F S_ .f32 := constant S_ .f32 0x00000000#32
  let main_v116 : FVec F S16384 .f32 := (fun x v => Host.reduceAdd x v reducesTo_S16384x8_S16384_d1 h_S_) main_v115 main_cst_11
  let main_v117 : FVec F S16384x1 .f32 := broadcastInDim S16384x1 ![0] bcast_S16384_S16384x1_0 main_v116
  let main_v118 : FVec F S16384x4096 .f32 := (fun l r => Host.dotGeneral dot_S16384x8_S8x4096_S16384x4096_1_0_0_1_n_n none l r) main_v114 main_v0
  let main_cst_12 : FVec F S_ .f32 := constant S_ .f32 0x40000000#32
  let main_v119 : FVec F S16384x4096 .f32 := broadcastInDim S16384x4096 ![] bcast_S_S16384x4096 main_cst_12
  let main_v120 : FVec F S16384x4096 .f32 := mulf main_v119 main_v118
  let main_v121 : FVec F S16384x4096 .f32 := broadcastInDim S16384x4096 ![0, 1] bcast_S16384x1_S16384x4096_0_1 main_v117
  let main_v122 : FVec F S16384x4096 .f32 := subf main_v121 main_v120
  let main_v123 : FVec F S16384x4096 .f32 := broadcastInDim S16384x4096 ![0, 1] bcast_S1x4096_S16384x4096_0_1 main_v3
  let main_v124 : FVec F S16384x4096 .f32 := addf main_v122 main_v123
  let main_v125 : FVec F S16384x4096 .f32 := Host.negf main_v124
  let main_values : FVec F S16384x11 .f32 := (fun x => (Host.topK S16384x11 1 (FloatOps.cmpfTotal .gt) x sliceFits_S16384x4096_S16384x11).1) main_v125
  let main_indices : IVec S16384x11 32 := (fun x => (Host.topK S16384x11 1 (FloatOps.cmpfTotal .gt) x sliceFits_S16384x4096_S16384x11).2) main_v125
  let main_v126 : FVec F S16384x11 .f32 := Host.negf main_values
  fn_part6 (F := F) main_v126

def fn_part4 {F : FTy → Type} [FloatOps F] (main_arg8 : FVec F S32 .f32) (main_arg9 : FVec F S32 .f32) (main_arg11 : FVec F S8 .f32) (main_v0 : FVec F S8x4096 .f32) (main_v3 : FVec F S1x4096 .f32) (main_v4 : FVec F S8x32 .f32) (main_v80 : FVec F S1x32x16x32x32 .f32) (main_v84 : FVec F S1x32x1x1x1 .f32) (main_v85 : FVec F S1x32x1x1x1 .f32) : IVec S16384x10 1 :=
  let main_v86 : FVec F S1x32x16x32x32 .f32 := broadcastInDim S1x32x16x32x32 ![0, 1, 2, 3, 4] bcast_S1x32x1x1x1_S1x32x16x32x32_0_1_2_3_4 main_v84
  let main_v87 : FVec F S1x32x16x32x32 .f32 := subf main_v80 main_v86
  let main_cst_8 : FVec F S_ .f32 := constant S_ .f32 0x3727C5AC#32
  let main_v88 : FVec F S1x32x1x1x1 .f32 := broadcastInDim S1x32x1x1x1 ![] bcast_S_S1x32x1x1x1 main_cst_8
  let main_v89 : FVec F S1x32x1x1x1 .f32 := addf main_v85 main_v88
  let main_v90 : FVec F S1x32x1x1x1 .f32 := Host.sqrt main_v89
  let main_v91 : FVec F S1x32x16x32x32 .f32 := broadcastInDim S1x32x16x32x32 ![0, 1, 2, 3, 4] bcast_S1x32x1x1x1_S1x32x16x32x32_0_1_2_3_4 main_v90
  let main_v92 : FVec F S1x32x16x32x32 .f32 := Host.divf main_v87 main_v91
  let main_v93 : FVec F S1x32x1x1x1 .f32 := broadcastInDim S1x32x1x1x1 ![1] bcast_S32_S1x32x1x1x1_1 main_arg8
  let main_v94 : FVec F S1x32x16x32x32 .f32 := broadcastInDim S1x32x16x32x32 ![0, 1, 2, 3, 4] bcast_S1x32x1x1x1_S1x32x16x32x32_0_1_2_3_4 main_v93
  let main_v95 : FVec F S1x32x16x32x32 .f32 := mulf main_v92 main_v94
  let main_v96 : FVec F S1x32x1x1x1 .f32 := broadcastInDim S1x32x1x1x1 ![1] bcast_S32_S1x32x1x1x1_1 main_arg9
  let main_v97 : FVec F S1x32x16x32x32 .f32 := broadcastInDim S1x32x16x32x32 ![0, 1, 2, 3, 4] bcast_S1x32x1x1x1_S1x32x16x32x32_0_1_2_3_4 main_v96
  let main_v98 : FVec F S1x32x16x32x32 .f32 := addf main_v95 main_v97
  let main_v99 : FVec F S1x32x16x32x32 .f32 := fn_relu_3 (F := F) main_v98
  let main_v100 : FVec F S1x16x32x32x8 .f32 := (fun l r => Host.dotGeneral dot_S1x32x16x32x32_S8x32_S1x16x32x32x8_1_1_0234_0_n_n none l r) main_v99 main_v4
  let main_v101 : FVec F S1x8x16x32x32 .f32 := (transpose S1x8x16x32x32 [0, 4, 1, 2, 3] · transposes_S1x16x32x32x8_S1x8x16x32x32_0_4_1_2_3) main_v100
  let main_v102 : FVec F S1x8x1x1x1 .f32 := broadcastInDim S1x8x1x1x1 ![1] bcast_S8_S1x8x1x1x1_1 main_arg11
  let main_v103 : FVec F S1x8x16x32x32 .f32 := broadcastInDim S1x8x16x32x32 ![0, 1, 2, 3, 4] bcast_S1x8x1x1x1_S1x8x16x32x32_0_1_2_3_4 main_v102
  let main_v104 : FVec F S1x8x16x32x32 .f32 := addf main_v101 main_v103
  let main_v105 : FVec F S1x8x16x32x32 .f32 := mulf main_v104 main_v104
  let main_cst_9 : FVec F S_ .f32 := constant S_ .f32 0x00000000#32
  let main_v106 : FVec F S1x16x32x32 .f32 := (fun x v => Host.reduceAdd x v reducesTo_S1x8x16x32x32_S1x16x32x32_d1 h_S_) main_v105 main_cst_9
  let main_v107 : FVec F S1x1x16x32x32 .f32 := broadcastInDim S1x1x16x32x32 ![0, 2, 3, 4] bcast_S1x16x32x32_S1x1x16x32x32_0_2_3_4 main_v106
  fn_part5 (F := F) main_v0 main_v3 main_v104 main_v107

def fn_part3 {F : FTy → Type} [FloatOps F] (main_arg6 : FVec F S32x16x3x3x3 .f32) (main_arg7 : FVec F S32 .f32) (main_arg8 : FVec F S32 .f32) (main_arg9 : FVec F S32 .f32) (main_arg11 : FVec F S8 .f32) (main_v0 : FVec F S8x4096 .f32) (main_v3 : FVec F S1x4096 .f32) (main_v4 : FVec F S8x32 .f32) (main_v62 : FVec F S16x3x16x32x34 .f32) (main_v63 : FVec F S16x3x16x32x34 .f32) (main_v64 : FVec F S16x3x16x32x34 .f32) : IVec S16384x10 1 :=
  let main_v65 : FVec F S16x3x1x16x32x34 .f32 := broadcastInDim S16x3x1x16x32x34 ![0, 1, 3, 4, 5] bcast_S16x3x16x32x34_S16x3x1x16x32x34_0_1_3_4_5 main_v62
  let main_v66 : FVec F S16x3x1x16x32x34 .f32 := broadcastInDim S16x3x1x16x32x34 ![0, 1, 3, 4, 5] bcast_S16x3x16x32x34_S16x3x1x16x32x34_0_1_3_4_5 main_v63
  let main_v67 : FVec F S16x3x1x16x32x34 .f32 := broadcastInDim S16x3x1x16x32x34 ![0, 1, 3, 4, 5] bcast_S16x3x16x32x34_S16x3x1x16x32x34_0_1_3_4_5 main_v64
  let main_v68 : FVec F S16x3x3x16x32x34 .f32 := concatenate S16x3x3x16x32x34 2 [⟨S16x3x1x16x32x34, main_v65⟩, ⟨S16x3x1x16x32x34, main_v66⟩, ⟨S16x3x1x16x32x34, main_v67⟩] concatenates_S16x3x1x16x32x34_S16x3x1x16x32x34_S16x3x1x16x32x34_S16x3x3x16x32x34_d2
  let main_v69 : FVec F S16x3x3x16x32x32 .f32 := (extractStridedSlice S16x3x3x16x32x32 ![0, 0, 0, 0, 0, 0] · slices_S16x3x3x16x32x34_S16x3x3x16x32x32_0_0_0_0_0_0) main_v68
  let main_v70 : FVec F S16x3x3x16x32x32 .f32 := (extractStridedSlice S16x3x3x16x32x32 ![0, 0, 0, 0, 0, 1] · slices_S16x3x3x16x32x34_S16x3x3x16x32x32_0_0_0_0_0_1) main_v68
  let main_v71 : FVec F S16x3x3x16x32x32 .f32 := (extractStridedSlice S16x3x3x16x32x32 ![0, 0, 0, 0, 0, 2] · slices_S16x3x3x16x32x34_S16x3x3x16x32x32_0_0_0_0_0_2) main_v68
  let main_v72 : FVec F S16x3x3x1x16x32x32 .f32 := broadcastInDim S16x3x3x1x16x32x32 ![0, 1, 2, 4, 5, 6] bcast_S16x3x3x16x32x32_S16x3x3x1x16x32x32_0_1_2_4_5_6 main_v69
  let main_v73 : FVec F S16x3x3x1x16x32x32 .f32 := broadcastInDim S16x3x3x1x16x32x32 ![0, 1, 2, 4, 5, 6] bcast_S16x3x3x16x32x32_S16x3x3x1x16x32x32_0_1_2_4_5_6 main_v70
  let main_v74 : FVec F S16x3x3x1x16x32x32 .f32 := broadcastInDim S16x3x3x1x16x32x32 ![0, 1, 2, 4, 5, 6] bcast_S16x3x3x16x32x32_S16x3x3x1x16x32x32_0_1_2_4_5_6 main_v71
  let main_v75 : FVec F S16x3x3x3x16x32x32 .f32 := concatenate S16x3x3x3x16x32x32 3 [⟨S16x3x3x1x16x32x32, main_v72⟩, ⟨S16x3x3x1x16x32x32, main_v73⟩, ⟨S16x3x3x1x16x32x32, main_v74⟩] concatenates_S16x3x3x1x16x32x32_S16x3x3x1x16x32x32_S16x3x3x1x16x32x32_S16x3x3x3x16x32x32_d3
  let main_v76 : FVec F S32x16x32x32 .f32 := (fun l r => Host.dotGeneral dot_S32x16x3x3x3_S16x3x3x3x16x32x32_S32x16x32x32_1432_0321_0_456_n_n none l r) main_arg6 main_v75
  let main_v77 : FVec F S1x32x16x32x32 .f32 := broadcastInDim S1x32x16x32x32 ![1, 2, 3, 4] bcast_S32x16x32x32_S1x32x16x32x32_1_2_3_4 main_v76
  let main_v78 : FVec F S1x32x1x1x1 .f32 := broadcastInDim S1x32x1x1x1 ![1] bcast_S32_S1x32x1x1x1_1 main_arg7
  let main_v79 : FVec F S1x32x16x32x32 .f32 := broadcastInDim S1x32x16x32x32 ![0, 1, 2, 3, 4] bcast_S1x32x1x1x1_S1x32x16x32x32_0_1_2_3_4 main_v78
  let main_v80 : FVec F S1x32x16x32x32 .f32 := addf main_v77 main_v79
  let main_cst_5 : FVec F S_ .f32 := constant S_ .f32 0x00000000#32
  let main_v81 : FVec F S32 .f32 := (fun x v => Host.reduceAdd x v reducesTo_S1x32x16x32x32_S32_d0_2_3_4 h_S_) main_v80 main_cst_5
  let main_v82 : FVec F S1x32x1x1x1 .f32 := broadcastInDim S1x32x1x1x1 ![1] bcast_S32_S1x32x1x1x1_1 main_v81
  let main_cst_6 : FVec F S_ .f32 := constant S_ .f32 0x46800000#32
  let main_v83 : FVec F S1x32x1x1x1 .f32 := broadcastInDim S1x32x1x1x1 ![] bcast_S_S1x32x1x1x1 main_cst_6
  let main_v84 : FVec F S1x32x1x1x1 .f32 := Host.divf main_v82 main_v83
  let main_c_7 : IVec S_ 32 := constantI S_ 32 0#32
  let main_v85 : FVec F S1x32x1x1x1 .f32 := fn_var_1 (F := F) main_v80 main_c_7
  fn_part4 (F := F) main_arg8 main_arg9 main_arg11 main_v0 main_v3 main_v4 main_v80 main_v84 main_v85

def fn_part2 {F : FTy → Type} [FloatOps F] (main_arg4 : FVec F S16 .f32) (main_arg5 : FVec F S16 .f32) (main_arg6 : FVec F S32x16x3x3x3 .f32) (main_arg7 : FVec F S32 .f32) (main_arg8 : FVec F S32 .f32) (main_arg9 : FVec F S32 .f32) (main_arg11 : FVec F S8 .f32) (main_v0 : FVec F S8x4096 .f32) (main_v3 : FVec F S1x4096 .f32) (main_v4 : FVec F S8x32 .f32) (main_v38 : FVec F S1x16x1x1x1 .f32) (main_v40 : FVec F S1x16x16x32x32 .f32) (main_v41 : FVec F S1x16x1x1x1 .f32) : IVec S16384x10 1 :=
  let main_v42 : FVec F S1x16x1x1x1 .f32 := addf main_v38 main_v41
  let main_v43 : FVec F S1x16x1x1x1 .f32 := Host.sqrt main_v42
  let main_v44 : FVec F S1x16x16x32x32 .f32 := broadcastInDim S1x16x16x32x32 ![0, 1, 2, 3, 4] bcast_S1x16x1x1x1_S1x16x16x32x32_0_1_2_3_4 main_v43
  let main_v45 : FVec F S1x16x16x32x32 .f32 := Host.divf main_v40 main_v44
  let main_v46 : FVec F S1x16x1x1x1 .f32 := broadcastInDim S1x16x1x1x1 ![1] bcast_S16_S1x16x1x1x1_1 main_arg4
  let main_v47 : FVec F S1x16x16x32x32 .f32 := broadcastInDim S1x16x16x32x32 ![0, 1, 2, 3, 4] bcast_S1x16x1x1x1_S1x16x16x32x32_0_1_2_3_4 main_v46
  let main_v48 : FVec F S1x16x16x32x32 .f32 := mulf main_v45 main_v47
  let main_v49 : FVec F S1x16x1x1x1 .f32 := broadcastInDim S1x16x1x1x1 ![1] bcast_S16_S1x16x1x1x1_1 main_arg5
  let main_v50 : FVec F S1x16x16x32x32 .f32 := broadcastInDim S1x16x16x32x32 ![0, 1, 2, 3, 4] bcast_S1x16x1x1x1_S1x16x16x32x32_0_1_2_3_4 main_v49
  let main_v51 : FVec F S1x16x16x32x32 .f32 := addf main_v48 main_v50
  let main_v52 : FVec F S1x16x16x32x32 .f32 := fn_relu (F := F) main_v51
  let main_v53 : FVec F S16x16x32x32 .f32 := shapeCast S16x16x32x32 main_v52 shapeCasts_S1x16x16x32x32_S16x16x32x32
  let main_c_4 : IVec S_ 32 := constantI S_ 32 0#32
  let main_v54 : FVec F S16x18x34x34 .f32 := fn_pad_0 (F := F) main_v53 main_c_4
  let main_v55 : FVec F S16x16x34x34 .f32 := (extractStridedSlice S16x16x34x34 ![0, 0, 0, 0] · slices_S16x18x34x34_S16x16x34x34_0_0_0_0) main_v54
  let main_v56 : FVec F S16x16x34x34 .f32 := (extractStridedSlice S16x16x34x34 ![0, 1, 0, 0] · slices_S16x18x34x34_S16x16x34x34_0_1_0_0) main_v54
  let main_v57 : FVec F S16x16x34x34 .f32 := (extractStridedSlice S16x16x34x34 ![0, 2, 0, 0] · slices_S16x18x34x34_S16x16x34x34_0_2_0_0) main_v54
  let main_v58 : FVec F S16x1x16x34x34 .f32 := broadcastInDim S16x1x16x34x34 ![0, 2, 3, 4] bcast_S16x16x34x34_S16x1x16x34x34_0_2_3_4 main_v55
  let main_v59 : FVec F S16x1x16x34x34 .f32 := broadcastInDim S16x1x16x34x34 ![0, 2, 3, 4] bcast_S16x16x34x34_S16x1x16x34x34_0_2_3_4 main_v56
  let main_v60 : FVec F S16x1x16x34x34 .f32 := broadcastInDim S16x1x16x34x34 ![0, 2, 3, 4] bcast_S16x16x34x34_S16x1x16x34x34_0_2_3_4 main_v57
  let main_v61 : FVec F S16x3x16x34x34 .f32 := concatenate S16x3x16x34x34 1 [⟨S16x1x16x34x34, main_v58⟩, ⟨S16x1x16x34x34, main_v59⟩, ⟨S16x1x16x34x34, main_v60⟩] concatenates_S16x1x16x34x34_S16x1x16x34x34_S16x1x16x34x34_S16x3x16x34x34_d1
  let main_v62 : FVec F S16x3x16x32x34 .f32 := (extractStridedSlice S16x3x16x32x34 ![0, 0, 0, 0, 0] · slices_S16x3x16x34x34_S16x3x16x32x34_0_0_0_0_0) main_v61
  let main_v63 : FVec F S16x3x16x32x34 .f32 := (extractStridedSlice S16x3x16x32x34 ![0, 0, 0, 1, 0] · slices_S16x3x16x34x34_S16x3x16x32x34_0_0_0_1_0) main_v61
  let main_v64 : FVec F S16x3x16x32x34 .f32 := (extractStridedSlice S16x3x16x32x34 ![0, 0, 0, 2, 0] · slices_S16x3x16x34x34_S16x3x16x32x34_0_0_0_2_0) main_v61
  fn_part3 (F := F) main_arg6 main_arg7 main_arg8 main_arg9 main_arg11 main_v0 main_v3 main_v4 main_v62 main_v63 main_v64

def fn_part1 {F : FTy → Type} [FloatOps F] (main_arg2 : FVec F S16x2x3x3x3 .f32) (main_arg3 : FVec F S16 .f32) (main_arg4 : FVec F S16 .f32) (main_arg5 : FVec F S16 .f32) (main_arg6 : FVec F S32x16x3x3x3 .f32) (main_arg7 : FVec F S32 .f32) (main_arg8 : FVec F S32 .f32) (main_arg9 : FVec F S32 .f32) (main_arg11 : FVec F S8 .f32) (main_v0 : FVec F S8x4096 .f32) (main_v3 : FVec F S1x4096 .f32) (main_v4 : FVec F S8x32 .f32) (main_v21 : FVec F S2x3x3x16x32x34 .f32) : IVec S16384x10 1 :=
  let main_v22 : FVec F S2x3x3x16x32x32 .f32 := (extractStridedSlice S2x3x3x16x32x32 ![0, 0, 0, 0, 0, 0] · slices_S2x3x3x16x32x34_S2x3x3x16x32x32_0_0_0_0_0_0) main_v21
  let main_v23 : FVec F S2x3x3x16x32x32 .f32 := (extractStridedSlice S2x3x3x16x32x32 ![0, 0, 0, 0, 0, 1] · slices_S2x3x3x16x32x34_S2x3x3x16x32x32_0_0_0_0_0_1) main_v21
  let main_v24 : FVec F S2x3x3x16x32x32 .f32 := (extractStridedSlice S2x3x3x16x32x32 ![0, 0, 0, 0, 0, 2] · slices_S2x3x3x16x32x34_S2x3x3x16x32x32_0_0_0_0_0_2) main_v21
  let main_v25 : FVec F S2x3x3x1x16x32x32 .f32 := broadcastInDim S2x3x3x1x16x32x32 ![0, 1, 2, 4, 5, 6] bcast_S2x3x3x16x32x32_S2x3x3x1x16x32x32_0_1_2_4_5_6 main_v22
  let main_v26 : FVec F S2x3x3x1x16x32x32 .f32 := broadcastInDim S2x3x3x1x16x32x32 ![0, 1, 2, 4, 5, 6] bcast_S2x3x3x16x32x32_S2x3x3x1x16x32x32_0_1_2_4_5_6 main_v23
  let main_v27 : FVec F S2x3x3x1x16x32x32 .f32 := broadcastInDim S2x3x3x1x16x32x32 ![0, 1, 2, 4, 5, 6] bcast_S2x3x3x16x32x32_S2x3x3x1x16x32x32_0_1_2_4_5_6 main_v24
  let main_v28 : FVec F S2x3x3x3x16x32x32 .f32 := concatenate S2x3x3x3x16x32x32 3 [⟨S2x3x3x1x16x32x32, main_v25⟩, ⟨S2x3x3x1x16x32x32, main_v26⟩, ⟨S2x3x3x1x16x32x32, main_v27⟩] concatenates_S2x3x3x1x16x32x32_S2x3x3x1x16x32x32_S2x3x3x1x16x32x32_S2x3x3x3x16x32x32_d3
  let main_v29 : FVec F S16x16x32x32 .f32 := (fun l r => Host.dotGeneral dot_S16x2x3x3x3_S2x3x3x3x16x32x32_S16x16x32x32_1432_0321_0_456_n_n none l r) main_arg2 main_v28
  let main_v30 : FVec F S1x16x16x32x32 .f32 := broadcastInDim S1x16x16x32x32 ![1, 2, 3, 4] bcast_S16x16x32x32_S1x16x16x32x32_1_2_3_4 main_v29
  let main_v31 : FVec F S1x16x1x1x1 .f32 := broadcastInDim S1x16x1x1x1 ![1] bcast_S16_S1x16x1x1x1_1 main_arg3
  let main_v32 : FVec F S1x16x16x32x32 .f32 := broadcastInDim S1x16x16x32x32 ![0, 1, 2, 3, 4] bcast_S1x16x1x1x1_S1x16x16x32x32_0_1_2_3_4 main_v31
  let main_v33 : FVec F S1x16x16x32x32 .f32 := addf main_v30 main_v32
  let main_cst_0 : FVec F S_ .f32 := constant S_ .f32 0x00000000#32
  let main_v34 : FVec F S16 .f32 := (fun x v => Host.reduceAdd x v reducesTo_S1x16x16x32x32_S16_d0_2_3_4 h_S_) main_v33 main_cst_0
  let main_v35 : FVec F S1x16x1x1x1 .f32 := broadcastInDim S1x16x1x1x1 ![1] bcast_S16_S1x16x1x1x1_1 main_v34
  let main_cst_1 : FVec F S_ .f32 := constant S_ .f32 0x46800000#32
  let main_v36 : FVec F S1x16x1x1x1 .f32 := broadcastInDim S1x16x1x1x1 ![] bcast_S_S1x16x1x1x1 main_cst_1
  let main_v37 : FVec F S1x16x1x1x1 .f32 := Host.divf main_v35 main_v36
  let main_c_2 : IVec S_ 32 := constantI S_ 32 0#32
  let main_v38 : FVec F S1x16x1x1x1 .f32 := fn_var (F := F) main_v33 main_c_2
  let main_v39 : FVec F S1x16x16x32x32 .f32 := broadcastInDim S1x16x16x32x32 ![0, 1, 2, 3, 4] bcast_S1x16x1x1x1_S1x16x16x32x32_0_1_2_3_4 main_v37
  let main_v40 : FVec F S1x16x16x32x32 .f32 := subf main_v33 main_v39
  let main_cst_3 : FVec F S_ .f32 := constant S_ .f32 0x3727C5AC#32
  let main_v41 : FVec F S1x16x1x1x1 .f32 := broadcastInDim S1x16x1x1x1 ![] bcast_S_S1x16x1x1x1 main_cst_3
  fn_part2 (F := F) main_arg4 main_arg5 main_arg6 main_arg7 main_arg8 main_arg9 main_arg11 main_v0 main_v3 main_v4 main_v38 main_v40 main_v41

def fn {F : FTy → Type} [FloatOps F] (main_arg0 : FVec F S1x1x16x32x32 .f32) (main_arg1 : FVec F S1x1x16x32x32 .f32) (main_arg2 : FVec F S16x2x3x3x3 .f32) (main_arg3 : FVec F S16 .f32) (main_arg4 : FVec F S16 .f32) (main_arg5 : FVec F S16 .f32) (main_arg6 : FVec F S32x16x3x3x3 .f32) (main_arg7 : FVec F S32 .f32) (main_arg8 : FVec F S32 .f32) (main_arg9 : FVec F S32 .f32) (main_arg10 : FVec F S8x32x1x1x1 .f32) (main_arg11 : FVec F S8 .f32) (main_arg12 : FVec F S4096x8 .f32) (main_arg13 : FVec F S4096 .f32) (main_arg14 : IVec S1x1x16x32x32 1) (main_arg15 : IVec S_ 32) : IVec S16384x10 1 :=
  let main_v0 : FVec F S8x4096 .f32 := (transpose S8x4096 [1, 0] · transposes_S4096x8_S8x4096_1_0) main_arg12
  let main_v1 : FVec F S4096x8 .f32 := mulf main_arg12 main_arg12
  let main_cst : FVec F S_ .f32 := constant S_ .f32 0x00000000#32
  let main_v2 : FVec F S4096 .f32 := (fun x v => Host.reduceAdd x v reducesTo_S4096x8_S4096_d1 h_S_) main_v1 main_cst
  let main_v3 : FVec F S1x4096 .f32 := broadcastInDim S1x4096 ![1] bcast_S4096_S1x4096_1 main_v2
  let main_v4 : FVec F S8x32 .f32 := shapeCast S8x32 main_arg10 shapeCasts_S8x32x1x1x1_S8x32
  let main_v5 : FVec F S1x2x16x32x32 .f32 := (fun a b => concatenate S1x2x16x32x32 1 [⟨S1x1x16x32x32, a⟩, ⟨S1x1x16x32x32, b⟩] concatenates_S1x1x16x32x32_S1x1x16x32x32_S1x2x16x32x32_d1) main_arg0 main_arg1
  let main_v6 : FVec F S2x16x32x32 .f32 := shapeCast S2x16x32x32 main_v5 shapeCasts_S1x2x16x32x32_S2x16x32x32
  let main_c : IVec S_ 32 := constantI S_ 32 0#32
  let main_v7 : FVec F S2x18x34x34 .f32 := fn_pad (F := F) main_v6 main_c
  let main_v8 : FVec F S2x16x34x34 .f32 := (extractStridedSlice S2x16x34x34 ![0, 0, 0, 0] · slices_S2x18x34x34_S2x16x34x34_0_0_0_0) main_v7
  let main_v9 : FVec F S2x16x34x34 .f32 := (extractStridedSlice S2x16x34x34 ![0, 1, 0, 0] · slices_S2x18x34x34_S2x16x34x34_0_1_0_0) main_v7
  let main_v10 : FVec F S2x16x34x34 .f32 := (extractStridedSlice S2x16x34x34 ![0, 2, 0, 0] · slices_S2x18x34x34_S2x16x34x34_0_2_0_0) main_v7
  let main_v11 : FVec F S2x1x16x34x34 .f32 := broadcastInDim S2x1x16x34x34 ![0, 2, 3, 4] bcast_S2x16x34x34_S2x1x16x34x34_0_2_3_4 main_v8
  let main_v12 : FVec F S2x1x16x34x34 .f32 := broadcastInDim S2x1x16x34x34 ![0, 2, 3, 4] bcast_S2x16x34x34_S2x1x16x34x34_0_2_3_4 main_v9
  let main_v13 : FVec F S2x1x16x34x34 .f32 := broadcastInDim S2x1x16x34x34 ![0, 2, 3, 4] bcast_S2x16x34x34_S2x1x16x34x34_0_2_3_4 main_v10
  let main_v14 : FVec F S2x3x16x34x34 .f32 := concatenate S2x3x16x34x34 1 [⟨S2x1x16x34x34, main_v11⟩, ⟨S2x1x16x34x34, main_v12⟩, ⟨S2x1x16x34x34, main_v13⟩] concatenates_S2x1x16x34x34_S2x1x16x34x34_S2x1x16x34x34_S2x3x16x34x34_d1
  let main_v15 : FVec F S2x3x16x32x34 .f32 := (extractStridedSlice S2x3x16x32x34 ![0, 0, 0, 0, 0] · slices_S2x3x16x34x34_S2x3x16x32x34_0_0_0_0_0) main_v14
  let main_v16 : FVec F S2x3x16x32x34 .f32 := (extractStridedSlice S2x3x16x32x34 ![0, 0, 0, 1, 0] · slices_S2x3x16x34x34_S2x3x16x32x34_0_0_0_1_0) main_v14
  let main_v17 : FVec F S2x3x16x32x34 .f32 := (extractStridedSlice S2x3x16x32x34 ![0, 0, 0, 2, 0] · slices_S2x3x16x34x34_S2x3x16x32x34_0_0_0_2_0) main_v14
  let main_v18 : FVec F S2x3x1x16x32x34 .f32 := broadcastInDim S2x3x1x16x32x34 ![0, 1, 3, 4, 5] bcast_S2x3x16x32x34_S2x3x1x16x32x34_0_1_3_4_5 main_v15
  let main_v19 : FVec F S2x3x1x16x32x34 .f32 := broadcastInDim S2x3x1x16x32x34 ![0, 1, 3, 4, 5] bcast_S2x3x16x32x34_S2x3x1x16x32x34_0_1_3_4_5 main_v16
  let main_v20 : FVec F S2x3x1x16x32x34 .f32 := broadcastInDim S2x3x1x16x32x34 ![0, 1, 3, 4, 5] bcast_S2x3x16x32x34_S2x3x1x16x32x34_0_1_3_4_5 main_v17
  let main_v21 : FVec F S2x3x3x16x32x34 .f32 := concatenate S2x3x3x16x32x34 2 [⟨S2x3x1x16x32x34, main_v18⟩, ⟨S2x3x1x16x32x34, main_v19⟩, ⟨S2x3x1x16x32x34, main_v20⟩] concatenates_S2x3x1x16x32x34_S2x3x1x16x32x34_S2x3x1x16x32x34_S2x3x3x16x32x34_d2
  fn_part1 (F := F) main_arg2 main_arg3 main_arg4 main_arg5 main_arg6 main_arg7 main_arg8 main_arg9 main_arg11 main_v0 main_v3 main_v4 main_v21
-- ==== Kernel.lean ====
abbrev S1x1x16x32x32 : Shape := ⟨5, ![1, 1, 16, 32, 32]⟩
abbrev S16x2x3x3x3 : Shape := ⟨5, ![16, 2, 3, 3, 3]⟩
abbrev S16 : Shape := ⟨1, ![16]⟩
abbrev S32x16x3x3x3 : Shape := ⟨5, ![32, 16, 3, 3, 3]⟩
abbrev S32 : Shape := ⟨1, ![32]⟩
abbrev S8x32x1x1x1 : Shape := ⟨5, ![8, 32, 1, 1, 1]⟩
abbrev S8 : Shape := ⟨1, ![8]⟩
abbrev S4096x8 : Shape := ⟨2, ![4096, 8]⟩
abbrev S4096 : Shape := ⟨1, ![4096]⟩
abbrev S_ : Shape := ⟨0, ![]⟩
abbrev S1x2x16x32x32 : Shape := ⟨5, ![1, 2, 16, 32, 32]⟩
abbrev S2x16384 : Shape := ⟨2, ![2, 16384]⟩
abbrev S8x16384 : Shape := ⟨2, ![8, 16384]⟩
abbrev S3x3x16x3x2 : Shape := ⟨5, ![3, 3, 16, 3, 2]⟩
abbrev S3x3x16x3x8 : Shape := ⟨5, ![3, 3, 16, 3, 8]⟩
abbrev S144x24 : Shape := ⟨2, ![144, 24]⟩
abbrev S3x3x32x3x16 : Shape := ⟨5, ![3, 3, 32, 3, 16]⟩
abbrev S288x48 : Shape := ⟨2, ![288, 48]⟩
abbrev S8x32 : Shape := ⟨2, ![8, 32]⟩
abbrev S16x1 : Shape := ⟨2, ![16, 1]⟩
abbrev S32x1 : Shape := ⟨2, ![32, 1]⟩
abbrev S8x1 : Shape := ⟨2, ![8, 1]⟩
abbrev S4096x1 : Shape := ⟨2, ![4096, 1]⟩
abbrev S16384 : Shape := ⟨1, ![16384]⟩
abbrev S1024 : Shape := ⟨1, ![1024]⟩
abbrev S1x16384 : Shape := ⟨2, ![1, 16384]⟩
abbrev S16x16384 : Shape := ⟨2, ![16, 16384]⟩
abbrev S8x33 : Shape := ⟨2, ![8, 33]⟩
abbrev S8x16351 : Shape := ⟨2, ![8, 16351]⟩
abbrev S8x1024 : Shape := ⟨2, ![8, 1024]⟩
abbrev S8x15360 : Shape := ⟨2, ![8, 15360]⟩
abbrev S24x16384 : Shape := ⟨2, ![24, 16384]⟩
abbrev S16x24 : Shape := ⟨2, ![16, 24]⟩
abbrev S8x16352 : Shape := ⟨2, ![8, 16352]⟩
abbrev S8x31 : Shape := ⟨2, ![8, 31]⟩
abbrev S8x16353 : Shape := ⟨2, ![8, 16353]⟩
abbrev S8x16383 : Shape := ⟨2, ![8, 16383]⟩
abbrev S32x16384 : Shape := ⟨2, ![32, 16384]⟩
abbrev S16x33 : Shape := ⟨2, ![16, 33]⟩
abbrev S16x16351 : Shape := ⟨2, ![16, 16351]⟩
abbrev S16x1024 : Shape := ⟨2, ![16, 1024]⟩
abbrev S16x15360 : Shape := ⟨2, ![16, 15360]⟩
abbrev S48x16384 : Shape := ⟨2, ![48, 16384]⟩
abbrev S32x48 : Shape := ⟨2, ![32, 48]⟩
abbrev S16x32 : Shape := ⟨2, ![16, 32]⟩
abbrev S16x16352 : Shape := ⟨2, ![16, 16352]⟩
abbrev S16x31 : Shape := ⟨2, ![16, 31]⟩
abbrev S16x16353 : Shape := ⟨2, ![16, 16353]⟩
abbrev S16x16383 : Shape := ⟨2, ![16, 16383]⟩
abbrev S1x1024 : Shape := ⟨2, ![1, 1024]⟩
abbrev S4096x1024 : Shape := ⟨2, ![4096, 1024]⟩
abbrev S2048x1024 : Shape := ⟨2, ![2048, 1024]⟩

abbrev nBuf : Space → Nat
  | .hbm => 38
  | .vmem => 16
  | .smem => 0
  | _ => 0

abbrev bufTy : (tb : Table) → Fin (tcTables nBuf tb) → BufTy
  | .hbm, ⟨0, _⟩ => ⟨S1x1x16x32x32, .f32⟩
  | .hbm, ⟨1, _⟩ => ⟨S1x1x16x32x32, .f32⟩
  | .hbm, ⟨2, _⟩ => ⟨S16x2x3x3x3, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S32x16x3x3x3, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S8x32x1x1x1, .f32⟩
  | .hbm, ⟨11, _⟩ => ⟨S8, .f32⟩
  | .hbm, ⟨12, _⟩ => ⟨S4096x8, .f32⟩
  | .hbm, ⟨13, _⟩ => ⟨S4096, .f32⟩
  | .hbm, ⟨14, _⟩ => ⟨S1x1x16x32x32, .i1⟩
  | .hbm, ⟨15, _⟩ => ⟨S_, .i32⟩
  | .hbm, ⟨16, _⟩ => ⟨S1x2x16x32x32, .f32⟩
  | .hbm, ⟨17, _⟩ => ⟨S2x16384, .f32⟩
  | .hbm, ⟨18, _⟩ => ⟨S_, .i32⟩
  | .hbm, ⟨19, _⟩ => ⟨S_, .f32⟩
  | .hbm, ⟨20, _⟩ => ⟨S8x16384, .f32⟩
  | .hbm, ⟨21, _⟩ => ⟨S3x3x16x3x2, .f32⟩
  | .hbm, ⟨22, _⟩ => ⟨S_, .i32⟩
  | .hbm, ⟨23, _⟩ => ⟨S_, .f32⟩
  | .hbm, ⟨24, _⟩ => ⟨S3x3x16x3x8, .f32⟩
  | .hbm, ⟨25, _⟩ => ⟨S144x24, .f32⟩
  | .hbm, ⟨26, _⟩ => ⟨S3x3x32x3x16, .f32⟩
  | .hbm, ⟨27, _⟩ => ⟨S288x48, .f32⟩
  | .hbm, ⟨28, _⟩ => ⟨S8x32, .f32⟩
  | .hbm, ⟨29, _⟩ => ⟨S16x1, .f32⟩
  | .hbm, ⟨30, _⟩ => ⟨S16x1, .f32⟩
  | .hbm, ⟨31, _⟩ => ⟨S16x1, .f32⟩
  | .hbm, ⟨32, _⟩ => ⟨S32x1, .f32⟩
  | .hbm, ⟨33, _⟩ => ⟨S32x1, .f32⟩
  | .hbm, ⟨34, _⟩ => ⟨S32x1, .f32⟩
  | .hbm, ⟨35, _⟩ => ⟨S8x1, .f32⟩
  | .hbm, ⟨36, _⟩ => ⟨S4096x1, .f32⟩
  | .hbm, ⟨37, _⟩ => ⟨S16384, .f32⟩
  | .local _ .vmem, ⟨0, _⟩ => ⟨S8x16384, .f32⟩
  | .local _ .vmem, ⟨1, _⟩ => ⟨S144x24, .f32⟩
  | .local _ .vmem, ⟨2, _⟩ => ⟨S16x1, .f32⟩
  | .local _ .vmem, ⟨3, _⟩ => ⟨S16x1, .f32⟩
  | .local _ .vmem, ⟨4, _⟩ => ⟨S16x1, .f32⟩
  | .local _ .vmem, ⟨5, _⟩ => ⟨S288x48, .f32⟩
  | .local _ .vmem, ⟨6, _⟩ => ⟨S32x1, .f32⟩
  | .local _ .vmem, ⟨7, _⟩ => ⟨S32x1, .f32⟩
  | .local _ .vmem, ⟨8, _⟩ => ⟨S32x1, .f32⟩
  | .local _ .vmem, ⟨9, _⟩ => ⟨S8x32, .f32⟩
  | .local _ .vmem, ⟨10, _⟩ => ⟨S8x1, .f32⟩
  | .local _ .vmem, ⟨11, _⟩ => ⟨S4096x8, .f32⟩
  | .local _ .vmem, ⟨12, _⟩ => ⟨S4096x1, .f32⟩
  | .local _ .vmem, ⟨13, _⟩ => ⟨S1024, .f32⟩
  | .local _ .vmem, ⟨14, _⟩ => ⟨S1024, .f32⟩
  | .local _ .vmem, ⟨15, _⟩ => ⟨S8x16384, .f32⟩
  | _, _ => ⟨S1x1x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_call0_v0 : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg13_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem13_1 : DmaSem sig := 14

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0 : Index := 0#32
  let arg0 : BitVec 32 := BitVec.ofNat 32 (i 0).val
  let c1024_i32 : BitVec 32 := 1024#32
  let v3 : BitVec 32 := Scalar.muli arg0 c1024_i32
  let v4 : Index := Scalar.indexCast v3
  ![0, v4.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S8x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S144x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S288x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "big" => some ⊤
  | _ => none
-- ==== ReferenceIdeal.lean ====
abbrev S1x1x16x32x32 : Shape := ⟨5, ![1, 1, 16, 32, 32]⟩
abbrev S16x2x3x3x3 : Shape := ⟨5, ![16, 2, 3, 3, 3]⟩
abbrev S16 : Shape := ⟨1, ![16]⟩
abbrev S32x16x3x3x3 : Shape := ⟨5, ![32, 16, 3, 3, 3]⟩
abbrev S32 : Shape := ⟨1, ![32]⟩
abbrev S8x32x1x1x1 : Shape := ⟨5, ![8, 32, 1, 1, 1]⟩
abbrev S8 : Shape := ⟨1, ![8]⟩
abbrev S4096x8 : Shape := ⟨2, ![4096, 8]⟩
abbrev S4096 : Shape := ⟨1, ![4096]⟩
abbrev S_ : Shape := ⟨0, ![]⟩
abbrev S8x4096 : Shape := ⟨2, ![8, 4096]⟩
abbrev S1x4096 : Shape := ⟨2, ![1, 4096]⟩
abbrev S8x32 : Shape := ⟨2, ![8, 32]⟩
abbrev S1x2x16x32x32 : Shape := ⟨5, ![1, 2, 16, 32, 32]⟩
abbrev S2x16x32x32 : Shape := ⟨4, ![2, 16, 32, 32]⟩
abbrev S2x18x34x34 : Shape := ⟨4, ![2, 18, 34, 34]⟩
abbrev S2x16x34x34 : Shape := ⟨4, ![2, 16, 34, 34]⟩
abbrev S2x1x16x34x34 : Shape := ⟨5, ![2, 1, 16, 34, 34]⟩
abbrev S2x3x16x34x34 : Shape := ⟨5, ![2, 3, 16, 34, 34]⟩
abbrev S2x3x16x32x34 : Shape := ⟨5, ![2, 3, 16, 32, 34]⟩
abbrev S2x3x1x16x32x34 : Shape := ⟨6, ![2, 3, 1, 16, 32, 34]⟩
abbrev S2x3x3x16x32x34 : Shape := ⟨6, ![2, 3, 3, 16, 32, 34]⟩
abbrev S2x3x3x16x32x32 : Shape := ⟨6, ![2, 3, 3, 16, 32, 32]⟩
abbrev S2x3x3x1x16x32x32 : Shape := ⟨7, ![2, 3, 3, 1, 16, 32, 32]⟩
abbrev S2x3x3x3x16x32x32 : Shape := ⟨7, ![2, 3, 3, 3, 16, 32, 32]⟩
abbrev S16x16x32x32 : Shape := ⟨4, ![16, 16, 32, 32]⟩
abbrev S1x16x16x32x32 : Shape := ⟨5, ![1, 16, 16, 32, 32]⟩
abbrev S1x16x1x1x1 : Shape := ⟨5, ![1, 16, 1, 1, 1]⟩
abbrev S16x18x34x34 : Shape := ⟨4, ![16, 18, 34, 34]⟩
abbrev S16x16x34x34 : Shape := ⟨4, ![16, 16, 34, 34]⟩
abbrev S16x1x16x34x34 : Shape := ⟨5, ![16, 1, 16, 34, 34]⟩
abbrev S16x3x16x34x34 : Shape := ⟨5, ![16, 3, 16, 34, 34]⟩
abbrev S16x3x16x32x34 : Shape := ⟨5, ![16, 3, 16, 32, 34]⟩
abbrev S16x3x1x16x32x34 : Shape := ⟨6, ![16, 3, 1, 16, 32, 34]⟩
abbrev S16x3x3x16x32x34 : Shape := ⟨6, ![16, 3, 3, 16, 32, 34]⟩
abbrev S16x3x3x16x32x32 : Shape := ⟨6, ![16, 3, 3, 16, 32, 32]⟩
abbrev S16x3x3x1x16x32x32 : Shape := ⟨7, ![16, 3, 3, 1, 16, 32, 32]⟩
abbrev S16x3x3x3x16x32x32 : Shape := ⟨7, ![16, 3, 3, 3, 16, 32, 32]⟩
abbrev S32x16x32x32 : Shape := ⟨4, ![32, 16, 32, 32]⟩
abbrev S1x32x16x32x32 : Shape := ⟨5, ![1, 32, 16, 32, 32]⟩
abbrev S1x32x1x1x1 : Shape := ⟨5, ![1, 32, 1, 1, 1]⟩
abbrev S1x16x32x32x8 : Shape := ⟨5, ![1, 16, 32, 32, 8]⟩
abbrev S1x8x16x32x32 : Shape := ⟨5, ![1, 8, 16, 32, 32]⟩
abbrev S1x8x1x1x1 : Shape := ⟨5, ![1, 8, 1, 1, 1]⟩
abbrev S1x16x32x32 : Shape := ⟨4, ![1, 16, 32, 32]⟩
abbrev S16384x8 : Shape := ⟨2, ![16384, 8]⟩
abbrev S16384 : Shape := ⟨1, ![16384]⟩
abbrev S16384x1 : Shape := ⟨2, ![16384, 1]⟩
abbrev S16384x4096 : Shape := ⟨2, ![16384, 4096]⟩
abbrev S16384x10 : Shape := ⟨2, ![16384, 10]⟩
abbrev S16384x10x1 : Shape := ⟨3, ![16384, 10, 1]⟩

abbrev nBuf : Space → Nat
  | .hbm => 232
  | .vmem => 0
  | .smem => 0
  | _ => 0

abbrev hbmTy0_0 (i : Nat) : BufTy := match i % 128 with
  | 0 => ⟨S1x1x16x32x32, .f32⟩
  | 1 => ⟨S1x1x16x32x32, .f32⟩
  | 2 => ⟨S16x2x3x3x3, .f32⟩
  | 3 => ⟨S16, .f32⟩
  | 4 => ⟨S16, .f32⟩
  | 5 => ⟨S16, .f32⟩
  | 6 => ⟨S32x16x3x3x3, .f32⟩
  | 7 => ⟨S32, .f32⟩
  | 8 => ⟨S32, .f32⟩
  | 9 => ⟨S32, .f32⟩
  | 10 => ⟨S8x32x1x1x1, .f32⟩
  | 11 => ⟨S8, .f32⟩
  | 12 => ⟨S4096x8, .f32⟩
  | 13 => ⟨S4096, .f32⟩
  | 14 => ⟨S1x1x16x32x32, .i1⟩
  | 15 => ⟨S_, .i32⟩
  | 16 => ⟨S8x4096, .f32⟩
  | 17 => ⟨S4096x8, .f32⟩
  | 18 => ⟨S_, .f32⟩
  | 19 => ⟨S4096, .f32⟩
  | 20 => ⟨S1x4096, .f32⟩
  | 21 => ⟨S8x32, .f32⟩
  | 22 => ⟨S1x2x16x32x32, .f32⟩
  | 23 => ⟨S2x16x32x32, .f32⟩
  | 24 => ⟨S_, .i32⟩
  | 25 => ⟨S_, .f32⟩
  | 26 => ⟨S2x18x34x34, .f32⟩
  | 27 => ⟨S2x16x34x34, .f32⟩
  | 28 => ⟨S2x16x34x34, .f32⟩
  | 29 => ⟨S2x16x34x34, .f32⟩
  | 30 => ⟨S2x1x16x34x34, .f32⟩
  | 31 => ⟨S2x1x16x34x34, .f32⟩
  | 32 => ⟨S2x1x16x34x34, .f32⟩
  | 33 => ⟨S2x3x16x34x34, .f32⟩
  | 34 => ⟨S2x3x16x32x34, .f32⟩
  | 35 => ⟨S2x3x16x32x34, .f32⟩
  | 36 => ⟨S2x3x16x32x34, .f32⟩
  | 37 => ⟨S2x3x1x16x32x34, .f32⟩
  | 38 => ⟨S2x3x1x16x32x34, .f32⟩
  | 39 => ⟨S2x3x1x16x32x34, .f32⟩
  | 40 => ⟨S2x3x3x16x32x34, .f32⟩
  | 41 => ⟨S2x3x3x16x32x32, .f32⟩
  | 42 => ⟨S2x3x3x16x32x32, .f32⟩
  | 43 => ⟨S2x3x3x16x32x32, .f32⟩
  | 44 => ⟨S2x3x3x1x16x32x32, .f32⟩
  | 45 => ⟨S2x3x3x1x16x32x32, .f32⟩
  | 46 => ⟨S2x3x3x1x16x32x32, .f32⟩
  | 47 => ⟨S2x3x3x3x16x32x32, .f32⟩
  | 48 => ⟨S16x16x32x32, .f32⟩
  | 49 => ⟨S1x16x16x32x32, .f32⟩
  | 50 => ⟨S1x16x1x1x1, .f32⟩
  | 51 => ⟨S1x16x16x32x32, .f32⟩
  | 52 => ⟨S1x16x16x32x32, .f32⟩
  | 53 => ⟨S_, .f32⟩
  | 54 => ⟨S16, .f32⟩
  | 55 => ⟨S1x16x1x1x1, .f32⟩
  | 56 => ⟨S_, .f32⟩
  | 57 => ⟨S1x16x1x1x1, .f32⟩
  | 58 => ⟨S1x16x1x1x1, .f32⟩
  | 59 => ⟨S_, .i32⟩
  | 60 => ⟨S_, .f32⟩
  | 61 => ⟨S16, .f32⟩
  | 62 => ⟨S1x16x1x1x1, .f32⟩
  | 63 => ⟨S_, .f32⟩
  | 64 => ⟨S1x16x1x1x1, .f32⟩
  | 65 => ⟨S1x16x1x1x1, .f32⟩
  | 66 => ⟨S1x16x16x32x32, .f32⟩
  | 67 => ⟨S1x16x16x32x32, .f32⟩
  | 68 => ⟨S1x16x16x32x32, .f32⟩
  | 69 => ⟨S_, .f32⟩
  | 70 => ⟨S_, .f32⟩
  | 71 => ⟨S_, .f32⟩
  | 72 => ⟨S_, .f32⟩
  | 73 => ⟨S16, .f32⟩
  | 74 => ⟨S1x16x1x1x1, .f32⟩
  | 75 => ⟨S1x16x1x1x1, .f32⟩
  | 76 => ⟨S1x16x1x1x1, .f32⟩
  | 77 => ⟨S_, .f32⟩
  | 78 => ⟨S_, .i1⟩
  | 79 => ⟨S_, .f32⟩
  | 80 => ⟨S_, .f32⟩
  | 81 => ⟨S1x16x1x1x1, .f32⟩
  | 82 => ⟨S1x16x1x1x1, .f32⟩
  | 83 => ⟨S1x16x16x32x32, .f32⟩
  | 84 => ⟨S1x16x16x32x32, .f32⟩
  | 85 => ⟨S_, .f32⟩
  | 86 => ⟨S1x16x1x1x1, .f32⟩
  | 87 => ⟨S1x16x1x1x1, .f32⟩
  | 88 => ⟨S1x16x1x1x1, .f32⟩
  | 89 => ⟨S1x16x16x32x32, .f32⟩
  | 90 => ⟨S1x16x16x32x32, .f32⟩
  | 91 => ⟨S1x16x1x1x1, .f32⟩
  | 92 => ⟨S1x16x16x32x32, .f32⟩
  | 93 => ⟨S1x16x16x32x32, .f32⟩
  | 94 => ⟨S1x16x1x1x1, .f32⟩
  | 95 => ⟨S1x16x16x32x32, .f32⟩
  | 96 => ⟨S1x16x16x32x32, .f32⟩
  | 97 => ⟨S_, .f32⟩
  | 98 => ⟨S1x16x16x32x32, .f32⟩
  | 99 => ⟨S1x16x16x32x32, .f32⟩
  | 100 => ⟨S16x16x32x32, .f32⟩
  | 101 => ⟨S_, .i32⟩
  | 102 => ⟨S_, .f32⟩
  | 103 => ⟨S16x18x34x34, .f32⟩
  | 104 => ⟨S16x16x34x34, .f32⟩
  | 105 => ⟨S16x16x34x34, .f32⟩
  | 106 => ⟨S16x16x34x34, .f32⟩
  | 107 => ⟨S16x1x16x34x34, .f32⟩
  | 108 => ⟨S16x1x16x34x34, .f32⟩
  | 109 => ⟨S16x1x16x34x34, .f32⟩
  | 110 => ⟨S16x3x16x34x34, .f32⟩
  | 111 => ⟨S16x3x16x32x34, .f32⟩
  | 112 => ⟨S16x3x16x32x34, .f32⟩
  | 113 => ⟨S16x3x16x32x34, .f32⟩
  | 114 => ⟨S16x3x1x16x32x34, .f32⟩
  | 115 => ⟨S16x3x1x16x32x34, .f32⟩
  | 116 => ⟨S16x3x1x16x32x34, .f32⟩
  | 117 => ⟨S16x3x3x16x32x34, .f32⟩
  | 118 => ⟨S16x3x3x16x32x32, .f32⟩
  | 119 => ⟨S16x3x3x16x32x32, .f32⟩
  | 120 => ⟨S16x3x3x16x32x32, .f32⟩
  | 121 => ⟨S16x3x3x1x16x32x32, .f32⟩
  | 122 => ⟨S16x3x3x1x16x32x32, .f32⟩
  | 123 => ⟨S16x3x3x1x16x32x32, .f32⟩
  | 124 => ⟨S16x3x3x3x16x32x32, .f32⟩
  | 125 => ⟨S32x16x32x32, .f32⟩
  | 126 => ⟨S1x32x16x32x32, .f32⟩
  | 127 => ⟨S1x32x1x1x1, .f32⟩
  | _ => ⟨S1x1x16x32x32, .f32⟩

abbrev hbmTy0_1 (i : Nat) : BufTy := match i % 128 with
  | 0 => ⟨S1x32x16x32x32, .f32⟩
  | 1 => ⟨S1x32x16x32x32, .f32⟩
  | 2 => ⟨S_, .f32⟩
  | 3 => ⟨S32, .f32⟩
  | 4 => ⟨S1x32x1x1x1, .f32⟩
  | 5 => ⟨S_, .f32⟩
  | 6 => ⟨S1x32x1x1x1, .f32⟩
  | 7 => ⟨S1x32x1x1x1, .f32⟩
  | 8 => ⟨S_, .i32⟩
  | 9 => ⟨S_, .f32⟩
  | 10 => ⟨S32, .f32⟩
  | 11 => ⟨S1x32x1x1x1, .f32⟩
  | 12 => ⟨S_, .f32⟩
  | 13 => ⟨S1x32x1x1x1, .f32⟩
  | 14 => ⟨S1x32x1x1x1, .f32⟩
  | 15 => ⟨S1x32x16x32x32, .f32⟩
  | 16 => ⟨S1x32x16x32x32, .f32⟩
  | 17 => ⟨S1x32x16x32x32, .f32⟩
  | 18 => ⟨S_, .f32⟩
  | 19 => ⟨S_, .f32⟩
  | 20 => ⟨S_, .f32⟩
  | 21 => ⟨S_, .f32⟩
  | 22 => ⟨S32, .f32⟩
  | 23 => ⟨S1x32x1x1x1, .f32⟩
  | 24 => ⟨S1x32x1x1x1, .f32⟩
  | 25 => ⟨S1x32x1x1x1, .f32⟩
  | 26 => ⟨S_, .f32⟩
  | 27 => ⟨S_, .i1⟩
  | 28 => ⟨S_, .f32⟩
  | 29 => ⟨S_, .f32⟩
  | 30 => ⟨S1x32x1x1x1, .f32⟩
  | 31 => ⟨S1x32x1x1x1, .f32⟩
  | 32 => ⟨S1x32x16x32x32, .f32⟩
  | 33 => ⟨S1x32x16x32x32, .f32⟩
  | 34 => ⟨S_, .f32⟩
  | 35 => ⟨S1x32x1x1x1, .f32⟩
  | 36 => ⟨S1x32x1x1x1, .f32⟩
  | 37 => ⟨S1x32x1x1x1, .f32⟩
  | 38 => ⟨S1x32x16x32x32, .f32⟩
  | 39 => ⟨S1x32x16x32x32, .f32⟩
  | 40 => ⟨S1x32x1x1x1, .f32⟩
  | 41 => ⟨S1x32x16x32x32, .f32⟩
  | 42 => ⟨S1x32x16x32x32, .f32⟩
  | 43 => ⟨S1x32x1x1x1, .f32⟩
  | 44 => ⟨S1x32x16x32x32, .f32⟩
  | 45 => ⟨S1x32x16x32x32, .f32⟩
  | 46 => ⟨S_, .f32⟩
  | 47 => ⟨S1x32x16x32x32, .f32⟩
  | 48 => ⟨S1x32x16x32x32, .f32⟩
  | 49 => ⟨S1x16x32x32x8, .f32⟩
  | 50 => ⟨S1x8x16x32x32, .f32⟩
  | 51 => ⟨S1x8x1x1x1, .f32⟩
  | 52 => ⟨S1x8x16x32x32, .f32⟩
  | 53 => ⟨S1x8x16x32x32, .f32⟩
  | 54 => ⟨S1x8x16x32x32, .f32⟩
  | 55 => ⟨S_, .f32⟩
  | 56 => ⟨S1x16x32x32, .f32⟩
  | 57 => ⟨S1x1x16x32x32, .f32⟩
  | 58 => ⟨S1x1x16x32x32, .f32⟩
  | 59 => ⟨S_, .f32⟩
  | 60 => ⟨S1x1x16x32x32, .f32⟩
  | 61 => ⟨S1x1x16x32x32, .f32⟩
  | 62 => ⟨S1x8x16x32x32, .f32⟩
  | 63 => ⟨S1x8x16x32x32, .f32⟩
  | 64 => ⟨S1x16x32x32x8, .f32⟩
  | 65 => ⟨S16384x8, .f32⟩
  | 66 => ⟨S16384x8, .f32⟩
  | 67 => ⟨S_, .f32⟩
  | 68 => ⟨S16384, .f32⟩
  | 69 => ⟨S16384x1, .f32⟩
  | 70 => ⟨S16384x4096, .f32⟩
  | 71 => ⟨S_, .f32⟩
  | 72 => ⟨S16384x4096, .f32⟩
  | 73 => ⟨S16384x4096, .f32⟩
  | 74 => ⟨S16384x4096, .f32⟩
  | 75 => ⟨S16384x4096, .f32⟩
  | 76 => ⟨S16384x4096, .f32⟩
  | 77 => ⟨S16384x4096, .f32⟩
  | 78 => ⟨S16384x4096, .f32⟩
  | 79 => ⟨S16384x10, .f32⟩
  | 80 => ⟨S16384x10, .i32⟩
  | 81 => ⟨S16384x10, .f32⟩
  | 82 => ⟨S_, .f32⟩
  | 83 => ⟨S16384x10, .f32⟩
  | 84 => ⟨S16384x10, .f32⟩
  | 85 => ⟨S16384x10, .f32⟩
  | 86 => ⟨S_, .i32⟩
  | 87 => ⟨S16384x10, .i32⟩
  | 88 => ⟨S16384x10, .i1⟩
  | 89 => ⟨S_, .i32⟩
  | 90 => ⟨S16384x10, .i32⟩
  | 91 => ⟨S16384x10, .i32⟩
  | 92 => ⟨S16384x10, .i32⟩
  | 93 => ⟨S16384x10x1, .i32⟩
  | 94 => ⟨S16384x10, .f32⟩
  | 95 => ⟨S16384x10, .f32⟩
  | 96 => ⟨S_, .f32⟩
  | 97 => ⟨S16384, .f32⟩
  | 98 => ⟨S_, .f32⟩
  | 99 => ⟨S16384, .f32⟩
  | 100 => ⟨S_, .f32⟩
  | 101 => ⟨S16384, .f32⟩
  | 102 => ⟨S16384, .f32⟩
  | 103 => ⟨S16384, .f32⟩
  | _ => ⟨S1x1x16x32x32, .f32⟩

abbrev hbmTy (i : Nat) : BufTy := match i / 128 with
  | 0 => hbmTy0_0 i
  | 1 => hbmTy0_1 i
  | _ => ⟨S1x1x16x32x32, .f32⟩

abbrev bufTy : (tb : Table) → Fin (tcTables nBuf tb) → BufTy
  | .hbm, ⟨i, _⟩ => hbmTy i
  | _, _ => ⟨S1x1x16x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c : Ref sig .tc := ⟨.hbm, 24, rfl⟩
abbrev main_call0_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_0 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_v37 : Ref sig .tc := ⟨.hbm, 58, rfl⟩
abbrev main_c_2 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_cst_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_cst_1 : Ref sig .tc := ⟨.hbm, 70, rfl⟩
abbrev main_call1_v8 : Ref sig .tc := ⟨.hbm, 71, rfl⟩
abbrev main_call1_cst_2 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_cst_3 : Ref sig .tc := ⟨.hbm, 77, rfl⟩
abbrev main_call1_v13 : Ref sig .tc := ⟨.hbm, 78, rfl⟩
abbrev main_call1_cst_4 : Ref sig .tc := ⟨.hbm, 79, rfl⟩
abbrev main_call1_call0_v0 : Ref sig .tc := ⟨.hbm, 80, rfl⟩
abbrev main_call1_call0_v1 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_3 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_call2_cst : Ref sig .tc := ⟨.hbm, 97, rfl⟩
abbrev main_call2_v0 : Ref sig .tc := ⟨.hbm, 98, rfl⟩
abbrev main_v52 : Ref sig .tc := ⟨.hbm, 99, rfl⟩
abbrev main_v53 : Ref sig .tc := ⟨.hbm, 100, rfl⟩
abbrev main_c_4 : Ref sig .tc := ⟨.hbm, 101, rfl⟩
abbrev main_call3_v0 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_5 : Ref sig .tc := ⟨.hbm, 130, rfl⟩
abbrev main_v81 : Ref sig .tc := ⟨.hbm, 131, rfl⟩
abbrev main_v82 : Ref sig .tc := ⟨.hbm, 132, rfl⟩
abbrev main_cst_6 : Ref sig .tc := ⟨.hbm, 133, rfl⟩
abbrev main_v83 : Ref sig .tc := ⟨.hbm, 134, rfl⟩
abbrev main_v84 : Ref sig .tc := ⟨.hbm, 135, rfl⟩
abbrev main_c_7 : Ref sig .tc := ⟨.hbm, 136, rfl⟩
abbrev main_call4_cst : Ref sig .tc := ⟨.hbm, 137, rfl⟩
abbrev main_call4_v0 : Ref sig .tc := ⟨.hbm, 138, rfl⟩
abbrev main_call4_v1 : Ref sig .tc := ⟨.hbm, 139, rfl⟩
abbrev main_call4_cst_0 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_call4_v5 : Ref sig .tc := ⟨.hbm, 144, rfl⟩
abbrev main_call4_v6 : Ref sig .tc := ⟨.hbm, 145, rfl⟩
abbrev main_call4_v7 : Ref sig .tc := ⟨.hbm, 146, rfl⟩
abbrev main_call4_cst_1 : Ref sig .tc := ⟨.hbm, 147, rfl⟩
abbrev main_call4_v8 : Ref sig .tc := ⟨.hbm, 148, rfl⟩
abbrev main_call4_cst_2 : Ref sig .tc := ⟨.hbm, 149, rfl⟩
abbrev main_call4_v9 : Ref sig .tc := ⟨.hbm, 150, rfl⟩
abbrev main_call4_v10 : Ref sig .tc := ⟨.hbm, 151, rfl⟩
abbrev main_call4_v11 : Ref sig .tc := ⟨.hbm, 152, rfl⟩
abbrev main_call4_v12 : Ref sig .tc := ⟨.hbm, 153, rfl⟩
abbrev main_call4_cst_3 : Ref sig .tc := ⟨.hbm, 154, rfl⟩
abbrev main_call4_v13 : Ref sig .tc := ⟨.hbm, 155, rfl⟩
abbrev main_call4_cst_4 : Ref sig .tc := ⟨.hbm, 156, rfl⟩
abbrev main_call4_call0_v0 : Ref sig .tc := ⟨.hbm, 157, rfl⟩
abbrev main_call4_call0_v1 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_cst_8 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_call5_cst : Ref sig .tc := ⟨.hbm, 174, rfl⟩
abbrev main_call5_v0 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_cst_9 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_cst_10 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_cst_11 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_cst_12 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_values : Ref sig .tc := ⟨.hbm, 207, rfl⟩
abbrev main_indices : Ref sig .tc := ⟨.hbm, 208, rfl⟩
abbrev main_v126 : Ref sig .tc := ⟨.hbm, 209, rfl⟩
abbrev main_cst_13 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_c_14 : Ref sig .tc := ⟨.hbm, 214, rfl⟩
abbrev main_v130 : Ref sig .tc := ⟨.hbm, 215, rfl⟩
abbrev main_v131 : Ref sig .tc := ⟨.hbm, 216, rfl⟩
abbrev main_c_15 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_cst_16 : Ref sig .tc := ⟨.hbm, 224, rfl⟩
abbrev main_v138 : Ref sig .tc := ⟨.hbm, 225, rfl⟩
abbrev main_cst_17 : Ref sig .tc := ⟨.hbm, 226, rfl⟩
abbrev main_v139 : Ref sig .tc := ⟨.hbm, 227, rfl⟩
abbrev main_cst_18 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩

abbrev nD : Nat := 1
abbrev τ : Topo := Topo.v7x

variable {F : FTy → Type} [FloatOps F]
-- ==== Proof.Shift.lean ====
module
public import Idealize.ShloMosaic.Lib.Pointwise
public import Idealize.ShloMosaic.Lib.MatmulPlain
public import Idealize.ShloMosaic.Lib.Pointwise.IndexBridge
@[expose] public section
set_option maxRecDepth 16384

/-! Shifting the columns of a `c × 16384` array with zeros coming in, and stacking three such shifts: what each
holds at an index. The column number is the flat voxel number `1024 z + 32 y + x`. -/

noncomputable section
open Idealize.ShloMosaic

namespace Cert.Own

/-- The shape `c × n`. -/
abbrev Sh (c n : ℕ) : Shape := ⟨2, ![c, n]⟩

/-- Row `i` of `x` read at any integer column: zero outside the array. -/
def ext {c : ℕ} (x : FVec Ideal (Sh c 16384) .f32) (i : Fin c) (k : ℤ) : EReal :=
  if h : 0 ≤ k ∧ k < 16384 then x (ix2 i ⟨k.toNat, by omega⟩) else 0

/-- The columns moved right by `s`: `s` zero columns, then the first `r`. -/
def moveRight (c s r : ℕ) (x : FVec Ideal (Sh c 16384) .f32) (hs : (Sh c 16384).Slices ![0, 0] (Sh c r))
    (hc : Shape.Concatenates [Sh c s, Sh c r] (Sh c 16384) 1) : FVec Ideal (Sh c 16384) .f32 :=
  concatenate (Sh c 16384) 1
    [⟨Sh c s, broadcast (Sh c s) (Scalar.ofBits .f32 0x00000000#32 : Ideal .f32)⟩,
     ⟨Sh c r, extractStridedSlice (Sh c r) ![0, 0] x hs⟩] hc

/-- The columns moved left by `s`: the columns from `s` on (`r` of them), then `s` zero columns. -/
def moveLeft (c s r : ℕ) (x : FVec Ideal (Sh c 16384) .f32) (hs : (Sh c 16384).Slices ![0, s] (Sh c r))
    (hc : Shape.Concatenates [Sh c r, Sh c s] (Sh c 16384) 1) : FVec Ideal (Sh c 16384) .f32 :=
  concatenate (Sh c 16384) 1
    [⟨Sh c r, extractStridedSlice (Sh c r) ![0, s] x hs⟩,
     ⟨Sh c s, broadcast (Sh c s) (Scalar.ofBits .f32 0x00000000#32 : Ideal .f32)⟩] hc

/-- Moved right by `s`, column `n` is the old column `n - s`. -/
theorem moveRight_apply {c s r : ℕ} (x : FVec Ideal (Sh c 16384) .f32) (hs) (hc) (i : Fin c) (n : Fin 16384)
    (hr : s + r = 16384) : moveRight c s r x hs hc (ix2 i n) = ext x i ((n.val : ℤ) - s) := by
  unfold moveRight ext
  pointwise
  have hn := n.isLt
  by_cases h : n.val < s
  · rw [dif_pos h, dif_neg (by omega)]
  · rw [dif_neg h, dif_pos (by omega)]
    refine congrArg x (funext fun a => Fin.ext ?_)
    match a with
    | ⟨0, _⟩ => simp [Shape.Idx.norm]
    | ⟨1, _⟩ => simp [Shape.Idx.norm]

/-- Moved left by `s`, column `n` is the old column `n + s`. -/
theorem moveLeft_apply {c s r : ℕ} (x : FVec Ideal (Sh c 16384) .f32) (hs) (hc) (i : Fin c) (n : Fin 16384)
    (hr : s + r = 16384) : moveLeft c s r x hs hc (ix2 i n) = ext x i ((n.val : ℤ) + s) := by
  unfold moveLeft ext
  pointwise
  have hn := n.isLt
  by_cases h : n.val < r
  · rw [dif_pos h, dif_pos (by omega)]
    refine congrArg x (funext fun a => Fin.ext ?_)
    match a with
    | ⟨0, _⟩ => simp [Shape.Idx.norm]
    | ⟨1, _⟩ => simp [Shape.Idx.norm]; omega
  · rw [dif_neg h, dif_neg (by omega)]

/-- Three blocks of `c` rows, one above the other. -/
def stack3 (c d : ℕ) (a b e : FVec Ideal (Sh c 16384) .f32)
    (h : Shape.Concatenates [Sh c 16384, Sh c 16384, Sh c 16384] (Sh d 16384) 0) : FVec Ideal (Sh d 16384) .f32 :=
  concatenate (Sh d 16384) 0 [⟨Sh c 16384, a⟩, ⟨Sh c 16384, b⟩, ⟨Sh c 16384, e⟩] h

/-- Row `ez * c + i` of the stack is row `i` of block `ez`. -/
theorem stack3_apply {c d : ℕ} (a b e : FVec Ideal (Sh c 16384) .f32) (h) (ez : Fin 3) (i : Fin c) (k : Fin d)
    (hk : k.val = ez.val * c + i.val) (n : Fin 16384) :
    stack3 c d a b e h (ix2 k n) = (![a, b, e] ez) (ix2 i n) := by
  unfold stack3
  refine concatenate_apply_piece (t := Sh d 16384) 0
    [⟨Sh c 16384, a⟩, ⟨Sh c 16384, b⟩, ⟨Sh c 16384, e⟩] h (ix2 k n) ez.val ez.isLt (Sh c 16384) (![a, b, e] ez) ?_ rfl
    (ez.val * c) ?_ (ix2 i n) ?_ ?_
  · match ez with
    | ⟨0, _⟩ => rfl
    | ⟨1, _⟩ => rfl
    | ⟨2, _⟩ => rfl
  · match ez with
    | ⟨0, _⟩ => simp
    | ⟨1, _⟩ => simp
    | ⟨2, _⟩ => simp [two_mul]
  · intro b hb
    match b with
    | ⟨0, _⟩ => exact absurd rfl hb
    | ⟨1, _⟩ => rfl
  · exact hk.symm

/-- One of the nine in-plane offsets' contribution: the masked in-plane shift `y`, moved by one plane of 1024 columns
to the right, by none and to the left, the three stacked, and the weights' rows applied to the stack. -/
def planeDot (c d o : ℕ) (D : DotDims (Sh o d) (Sh d 16384) (Sh o 16384)) (w : FVec Ideal (Sh o d) .f32)
    (y : FVec Ideal (Sh c 16384) .f32)
    (h1 : (Sh c 16384).Slices ![0, 0] (Sh c 15360)) (h2 : Shape.Concatenates [Sh c 1024, Sh c 15360] (Sh c 16384) 1)
    (h3 : (Sh c 16384).Slices ![0, 1024] (Sh c 15360)) (h4 : Shape.Concatenates [Sh c 15360, Sh c 1024] (Sh c 16384) 1)
    (h5 : Shape.Concatenates [Sh c 16384, Sh c 16384, Sh c 16384] (Sh d 16384) 0)
    (h6 : (Sh o d).ShapeCasts (Sh o d)) : FVec Ideal (Sh o 16384) .f32 :=
  matmul D none (shapeCast (Sh o d) w h6)
    (stack3 c d (moveRight c 1024 15360 y h1 h2) y (moveLeft c 1024 15360 y h3 h4) h5)
    (constant (Sh o 16384) .f32 0x00000000#32)

/-- Block `ez` of the stack at column `n`: the shift at column `n + 1024 (ez - 1)`. -/
theorem planes_apply {c : ℕ} (y : FVec Ideal (Sh c 16384) .f32) (h1) (h2) (h3) (h4) (ez : Fin 3) (i : Fin c)
    (n : Fin 16384) :
    (![moveRight c 1024 15360 y h1 h2, y, moveLeft c 1024 15360 y h3 h4] ez) (ix2 i n)
      = ext y i ((n.val : ℤ) + 1024 * ((ez.val : ℤ) - 1)) := by
  match ez with
  | ⟨0, _⟩ => exact (moveRight_apply y h1 h2 i n rfl).trans (congrArg _ (by simp; rfl))
  | ⟨1, _⟩ =>
    have hn := n.isLt
    show y (ix2 i n) = _
    unfold ext
    rw [dif_pos (by simp)]
    refine congrArg (fun q => y (ix2 i q)) (Fin.ext ?_)
    simp
  | ⟨2, _⟩ => exact (moveLeft_apply y h3 h4 i n rfl).trans (congrArg _ (by simp))

/-- A sum over the stack's rows is the sum over the three blocks of the sums over each block's rows. -/
theorem sum_blocks {c d : ℕ} (hd : d = 3 * c) (f : Fin d → EReal) (g : Fin 3 → Fin c → EReal)
    (h : ∀ (k : Fin d) (ez : Fin 3) (i : Fin c), k.val = ez.val * c + i.val → f k = g ez i) :
    ∑ k, f k = ∑ ez, ∑ i, g ez i := by
  subst hd
  rw [← Fintype.sum_prod_type', ← Equiv.sum_comp finProdFinEquiv]
  refine Finset.sum_congr rfl fun p _ => h _ _ _ ?_
  simp [finProdFinEquiv]
  ring

/-- `planeDot` at `(o, n)`: over the three planes and the `c` rows, weight times the masked shift's column in that
plane. -/
theorem planeDot_apply {c d o : ℕ} (D : DotDims (Sh o d) (Sh d 16384) (Sh o 16384)) (hD : D = DotDims.plain o d 16384)
    (hd : d = 3 * c) (w : FVec Ideal (Sh o d) .f32) (y : FVec Ideal (Sh c 16384) .f32) (h1) (h2) (h3) (h4) (h5) (h6)
    (W : Fin 3 → Fin c → EReal) (r : Fin o) (n : Fin 16384)
    (hW : ∀ (k : Fin d) (ez : Fin 3) (i : Fin c), k.val = ez.val * c + i.val → w (ix2 r k) = W ez i) :
    planeDot c d o D w y h1 h2 h3 h4 h5 h6 (ix2 r n)
      = ∑ ez : Fin 3, ∑ i, W ez i * ext y i ((n.val : ℤ) + 1024 * ((ez.val : ℤ) - 1)) := by
  subst hD
  unfold planeDot
  refine (Ideal.matmul_plain_apply none _ _ _ r n).trans ?_
  have h0 : (constant (F := Ideal) (Sh o 16384) .f32 0x00000000#32) (ix2 r n) = (0 : EReal) := by
    pointwise
  rw [← ix2_eq_valueIdx, h0, zero_add]
  refine sum_blocks hd _ _ fun k ez i hk => ?_
  rw [← ix2_eq_valueIdx, ← ix2_eq_valueIdx, stack3_apply _ _ _ h5 ez i k hk n, planes_apply]
  refine congrArg (· * _) ?_
  rw [← hW k ez i hk]
  pointwise

end Cert.Own
-- ==== Proof.Mask.lean ====
module
public import proofs.«01_k».proof.Proof.Gen.KernelIdeal.Value
public import proofs.«01_k».proof.Proof.Shift
@[expose] public section
set_option maxRecDepth 16384

/-! The nine in-plane masks: at flat voxel `n`, with `y = n / 32 % 32` and `x = n % 32`, the mask of the offset
`(ey - 1, ex - 1)` is one when the shifted `(y, x)` lies in the plane and zero otherwise. -/

noncomputable section
open Idealize.ShloMosaic

namespace Cert.Own
open Cert.KernelIdeal Cert.KernelIdeal.Gen

/-- The row length, as the body computes it. -/
def wd : BitVec 32 := Scalar.select (Scalar.cmpi .eq 32#32 0#32) 1#32 32#32
/-- `x` of every column. -/
def xc : IVec S1x16384 32 := k0_pay2
/-- `y` of every column. -/
def yc : IVec S1x16384 32 := k0_pay5 k0_pay3 wd k0_pay4

/-- The column's `x`. -/
theorem xc_apply (n : Fin 16384) : xc (ix2 0 n) = BitVec.ofNat 32 (n.val % 32) := by
  unfold xc k0_pay2
  pointwise
  revert n
  decide +kernel

/-- The column's `n / 32`. -/
theorem row_apply (n : Fin 16384) : k0_pay3 (ix2 0 n) = BitVec.ofNat 32 (n.val / 32) := by
  unfold k0_pay3
  pointwise
  revert n
  decide +kernel

/-- The column's `y`. -/
theorem yc_apply (n : Fin 16384) : yc (ix2 0 n) = BitVec.ofNat 32 (n.val / 32 % 32) := by
  unfold yc k0_pay5 k0_pay4 wd
  pointwise
  rw [row_apply]
  have h : ∀ r : Fin 512, ∀ _ : True, Scalar.select
      (IntOp.andi
        (IntOp.xori
          (IntOp.cmpi CmpIPredicate.slt
            (IntOp.remsi ArithUnit.vector (BitVec.ofNat 32 r.val)
              (Scalar.select (Scalar.cmpi CmpIPredicate.eq 32#32 0#32) 1#32 32#32))
            0#32)
          (Scalar.cmpi CmpIPredicate.slt (Scalar.select (Scalar.cmpi CmpIPredicate.eq 32#32 0#32) 1#32 32#32) 0#32))
        (IntOp.cmpi CmpIPredicate.ne
          (IntOp.remsi ArithUnit.vector (BitVec.ofNat 32 r.val)
            (Scalar.select (Scalar.cmpi CmpIPredicate.eq 32#32 0#32) 1#32 32#32))
          0#32))
      (IntOp.addi
        (IntOp.remsi ArithUnit.vector (BitVec.ofNat 32 r.val)
          (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 r.val)
        (Scalar.select (Scalar.cmpi CmpIPredicate.eq 32#32 0#32) 1#32 32#32)) = BitVec.ofNat 32 (r.val % 32) := by
    decide +kernel
  exact h ⟨n.val / 32, by have := n.isLt; omega⟩ trivial

/-- Whether the offset `e - 1` of the coordinate `a` stays in `0 … 31`. -/
def inside (a : ℕ) (e : ℕ) : Prop := 1 ≤ a + e ∧ a + e ≤ 32

instance (a e : ℕ) : Decidable (inside a e) := inferInstanceAs (Decidable (_ ∧ _))

/-- The test of a coordinate's word against the plane's bounds, after adding the offset's word. -/
def inW (a d : BitVec 32) : BitVec 1 :=
  IntOp.andi (IntOp.cmpi .sge (IntOp.addi a d) 0#32) (IntOp.cmpi .slt (IntOp.addi a d) 32#32)

/-- The three offsets' words. -/
def offW : Fin 3 → BitVec 32 := ![4294967295#32, 0#32, 1#32]

/-- The test of a coordinate below 32. -/
theorem inW_apply : ∀ (a : Fin 32) (e : Fin 3),
    inW (BitVec.ofNat 32 a.val) (offW e) = if inside a.val e.val then 1#1 else 0#1 := by decide +kernel

/-- The mask's word: both coordinates tested. -/
theorem mask_word (y x : BitVec 32) (ey ex : BitVec 32) :
    BitVec.setWidth 32 (IntOp.andi (IntOp.andi (inW y ey) (IntOp.cmpi .sge (IntOp.addi x ex) 0#32))
      (IntOp.cmpi .slt (IntOp.addi x ex) 32#32)) = BitVec.setWidth 32 (IntOp.andi (inW y ey) (inW x ex)) := by
  unfold inW IntOp.andi
  rw [BitVec.and_assoc]

/-- The mask of the offset `(ey - 1, ex - 1)` at column `n`. -/
def maskAt (ey ex : Fin 3) (n : Fin 16384) : EReal :=
  if inside (n.val / 32 % 32) ey.val ∧ inside (n.val % 32) ex.val then 1 else 0

/-- The integer one as a float. -/
theorem float_one : FloatOps.sitofp (F := Ideal) FTy.f32 1#32 = (1 : EReal) := by
  show (((1#32 : BitVec 32).toInt : ℝ) : EReal) = 1
  simp

/-- The integer zero as a float. -/
theorem float_zero : FloatOps.sitofp (F := Ideal) FTy.f32 0#32 = (0 : EReal) := by
  show (((0#32 : BitVec 32).toInt : ℝ) : EReal) = 0
  simp

/-- A mask whose word is the two tests is one inside the plane and zero outside. -/
theorem maskAt_of (ey ex : Fin 3) (n : Fin 16384) (v : EReal)
    (h : v = FloatOps.sitofp (F := Ideal) FTy.f32
      (BitVec.setWidth 32 (IntOp.andi (IntOp.andi (inW (yc (ix2 0 n)) (offW ey))
        (IntOp.cmpi .sge (IntOp.addi (xc (ix2 0 n)) (offW ex)) 0#32))
        (IntOp.cmpi .slt (IntOp.addi (xc (ix2 0 n)) (offW ex)) 32#32)) : BitVec 32)) : v = maskAt ey ex n := by
  rw [h, mask_word, xc_apply, yc_apply,
    inW_apply ⟨n.val / 32 % 32, Nat.mod_lt _ (by decide)⟩ ey, inW_apply ⟨n.val % 32, Nat.mod_lt _ (by decide)⟩ ex]
  unfold maskAt
  by_cases h1 : inside (n.val / 32 % 32) ey.val <;> by_cases h2 : inside (n.val % 32) ex.val <;>
    simp [h1, h2, IntOp.andi, float_one, float_zero]

section
open Cert.KernelIdeal.Gen.kernelRun0_A

/-- The mask of the offset (-1, -1). -/
theorem mask0 (n : Fin 16384) : sl.v183 (F := Ideal) (ix2 0 n) = maskAt 0 0 n := maskAt_of 0 0 n _ rfl
/-- The mask of the offset (-1, 0). -/
theorem mask1 (n : Fin 16384) : sl.v195 (F := Ideal) (ix2 0 n) = maskAt 0 1 n := maskAt_of 0 1 n _ rfl
/-- The mask of the offset (-1, 1). -/
theorem mask2 (n : Fin 16384) : sl.v207 (F := Ideal) (ix2 0 n) = maskAt 0 2 n := maskAt_of 0 2 n _ rfl
/-- The mask of the offset (0, -1). -/
theorem mask3 (n : Fin 16384) : sl.v228 (F := Ideal) (ix2 0 n) = maskAt 1 0 n := maskAt_of 1 0 n _ rfl
/-- The mask of the offset (0, 0). -/
theorem mask4 (n : Fin 16384) : sl.v240 (F := Ideal) (ix2 0 n) = maskAt 1 1 n := maskAt_of 1 1 n _ rfl
/-- The mask of the offset (0, 1). -/
theorem mask5 (n : Fin 16384) : sl.v252 (F := Ideal) (ix2 0 n) = maskAt 1 2 n := maskAt_of 1 2 n _ rfl
/-- The mask of the offset (1, -1). -/
theorem mask6 (n : Fin 16384) : sl.v273 (F := Ideal) (ix2 0 n) = maskAt 2 0 n := maskAt_of 2 0 n _ rfl
/-- The mask of the offset (1, 0). -/
theorem mask7 (n : Fin 16384) : sl.v285 (F := Ideal) (ix2 0 n) = maskAt 2 1 n := maskAt_of 2 1 n _ rfl
/-- The mask of the offset (1, 1). -/
theorem mask8 (n : Fin 16384) : sl.v297 (F := Ideal) (ix2 0 n) = maskAt 2 2 n := maskAt_of 2 2 n _ rfl
end

end Cert.Own
-- ==== Proof.Taps.lean ====
module
public import proofs.«01_k».proof.Proof.Mask
public import proofs.«01_k».proof.Proof.Shift
@[expose] public section
set_option maxRecDepth 16384

/-! A 3 × 3 × 3 convolution over the 16 × 32 × 32 volume, written over flat voxel numbers `1024 z + 32 y + x`, and the
masked shifts that compute it. -/

noncomputable section
open Idealize.ShloMosaic

namespace Cert.Own

/-- The volume `f` with a border of zeros one voxel wide, read at the bordered coordinates `(a, b, c)`. -/
def padded (f : Fin 16384 → EReal) (a b c : ℕ) : EReal :=
  if h : (1 ≤ a ∧ a ≤ 16) ∧ (1 ≤ b ∧ b ≤ 32) ∧ (1 ≤ c ∧ c ≤ 32) then
    f ⟨1024 * (a - 1) + 32 * (b - 1) + (c - 1), by omega⟩
  else 0

/-- The neighbour of voxel `n` at offset `(ez - 1, ey - 1, ex - 1)`, zero outside the volume. -/
def tap (f : Fin 16384 → EReal) (n : Fin 16384) (ez ey ex : Fin 3) : EReal :=
  padded f (n.val / 1024 + ez.val) (n.val / 32 % 32 + ey.val) (n.val % 32 + ex.val)

/-- The convolution at voxel `n`: over the channels and the 27 offsets, weight times neighbour. -/
def convAt {c : ℕ} (w : Fin c → Fin 3 → Fin 3 → Fin 3 → EReal) (x : Fin c → Fin 16384 → EReal) (n : Fin 16384) : EReal :=
  ∑ i, ∑ ez, ∑ ey, ∑ ex, w i ez ey ex * tap (x i) n ez ey ex

/-- A masked in-plane shift, read a plane further: the neighbour. -/
theorem ext_tap {c : ℕ} (x y : FVec Ideal (Sh c 16384) .f32) (ez ey ex : Fin 3) (i : Fin c) (n : Fin 16384)
    (hy : ∀ k : Fin 16384, y (ix2 i k)
      = ext x i ((k.val : ℤ) + (32 * ((ey.val : ℤ) - 1) + ((ex.val : ℤ) - 1))) * maskAt ey ex k) :
    ext y i ((n.val : ℤ) + 1024 * ((ez.val : ℤ) - 1)) = tap (fun k => x (ix2 i k)) n ez ey ex := by
  have hn := n.isLt
  have hz := ez.isLt
  have hey := ey.isLt
  have hex := ex.isLt
  unfold tap padded
  by_cases hp : 1 ≤ n.val / 1024 + ez.val ∧ n.val / 1024 + ez.val ≤ 16
  · have hk : 0 ≤ (n.val : ℤ) + 1024 * ((ez.val : ℤ) - 1) ∧ (n.val : ℤ) + 1024 * ((ez.val : ℤ) - 1) < 16384 := by omega
    obtain ⟨k, hk'⟩ : ∃ k : ℕ, (k : ℤ) = (n.val : ℤ) + 1024 * ((ez.val : ℤ) - 1) := ⟨_, Int.toNat_of_nonneg hk.1⟩
    have e1 : k / 32 % 32 = n.val / 32 % 32 := by omega
    have e2 : k % 32 = n.val % 32 := by omega
    rw [ext, dif_pos hk]
    have ek : (⟨((n.val : ℤ) + 1024 * ((ez.val : ℤ) - 1)).toNat, by omega⟩ : Fin 16384) = ⟨k, by omega⟩ :=
      Fin.ext (by show Int.toNat _ = k; omega)
    rw [ek, hy]
    unfold maskAt
    by_cases hq : inside (k / 32 % 32) ey.val ∧ inside (k % 32) ex.val
    · rw [if_pos hq, mul_one]
      unfold inside at hq
      rw [ext, dif_pos (by show _ ∧ _; dsimp only; omega), dif_pos (by omega)]
      refine congrArg (fun q => x (ix2 i q)) (Fin.ext ?_)
      show Int.toNat _ = _
      dsimp only
      omega
    · rw [if_neg hq, mul_zero, dif_neg]
      unfold inside at hq
      omega
  · rw [dif_neg (by omega), ext, dif_neg (by omega)]

/-- One in-plane offset's contribution to the convolution: over the three planes and the channels. -/
theorem planeDot_tap {c d o : ℕ} (D : DotDims (Sh o d) (Sh d 16384) (Sh o 16384)) (hD : D = DotDims.plain o d 16384)
    (hd : d = 3 * c) (w : FVec Ideal (Sh o d) .f32) (x y : FVec Ideal (Sh c 16384) .f32) (h1) (h2) (h3) (h4) (h5) (h6)
    (ey ex : Fin 3) (W : Fin 3 → Fin c → EReal) (r : Fin o) (n : Fin 16384)
    (hW : ∀ (k : Fin d) (ez : Fin 3) (i : Fin c), k.val = ez.val * c + i.val → w (ix2 r k) = W ez i)
    (hy : ∀ (i : Fin c) (k : Fin 16384), y (ix2 i k)
      = ext x i ((k.val : ℤ) + (32 * ((ey.val : ℤ) - 1) + ((ex.val : ℤ) - 1))) * maskAt ey ex k) :
    planeDot c d o D w y h1 h2 h3 h4 h5 h6 (ix2 r n)
      = ∑ ez : Fin 3, ∑ i, W ez i * tap (fun k => x (ix2 i k)) n ez ey ex := by
  rw [planeDot_apply D hD hd w y h1 h2 h3 h4 h5 h6 W r n hW]
  exact Finset.sum_congr rfl fun ez _ => Finset.sum_congr rfl fun i _ => by rw [ext_tap x y ez ey ex i n (hy i)]

/-- The nine in-plane offsets' contributions, added up in order, are the convolution. -/
theorem nine_taps {c : ℕ} (w : Fin c → Fin 3 → Fin 3 → Fin 3 → EReal) (x : Fin c → Fin 16384 → EReal) (n : Fin 16384)
    (T : Fin 3 → Fin 3 → EReal) (hT : ∀ ey ex, T ey ex = ∑ ez : Fin 3, ∑ i, w i ez ey ex * tap (x i) n ez ey ex) :
    0 + T 0 0 + T 0 1 + T 0 2 + T 1 0 + T 1 1 + T 1 2 + T 2 0 + T 2 1 + T 2 2 = convAt w x n := by
  have e : convAt w x n = ∑ ey, ∑ ex, T ey ex := by
    unfold convAt
    simp only [hT]
    rw [Finset.sum_comm]
    simp only [Finset.sum_comm (s := (Finset.univ : Finset (Fin c)))]
    rw [Finset.sum_comm]
    refine Finset.sum_congr rfl fun ey _ => ?_
    rw [Finset.sum_comm]
  rw [e]
  simp only [Fin.sum_univ_three, zero_add, add_assoc]

/-- Channels whose weights are zero do not count. -/
theorem convAt_few {c c' : ℕ} (hc : c ≤ c') (w : Fin c' → Fin 3 → Fin 3 → Fin 3 → EReal) (x : Fin c' → Fin 16384 → EReal)
    (n : Fin 16384) (hw : ∀ i : Fin c', c ≤ i.val → ∀ ez ey ex, w i ez ey ex = 0) :
    convAt w x n = convAt (fun i => w (Fin.castLE hc i)) (fun i => x (Fin.castLE hc i)) n := by
  unfold convAt
  symm
  refine Finset.sum_of_injOn (Fin.castLE hc) ?_ ?_ ?_ ?_
  · exact fun a _ b _ h => Fin.castLE_injective hc h
  · exact fun _ _ => Finset.mem_coe.mpr (Finset.mem_univ _)
  · intro i _ hi
    have : c ≤ i.val := by
      by_contra h
      exact hi ⟨⟨i.val, by omega⟩, Finset.mem_coe.mpr (Finset.mem_univ _), rfl⟩
    simp [hw i this]
  · exact fun _ _ => rfl

end Cert.Own
-- ==== Proof.Model.lean ====
module
public import proofs.«01_k».proof.Proof.Taps
@[expose] public section

/-! The encoder and the lookup as plain functions of numbers: voxels are numbered flat, `1024 z + 32 y + x`. -/

noncomputable section
open Idealize.ShloMosaic

namespace Cert.Own

/-- The mean over the voxels. -/
def meanOf (h : Fin 16384 → EReal) : EReal := Ideal.div (∑ k, h k) (Ideal.ofBits FTy.f32 1182793728#32)

/-- The variance over the voxels. -/
def varOf (h : Fin 16384 → EReal) : EReal :=
  Ideal.div (∑ k, (h k - meanOf h) * (h k - meanOf h)) (Ideal.ofBits FTy.f32 1182793728#32)

/-- Batch normalisation with scale `g` and shift `b`, then the positive part, at voxel `n`. -/
def normAt (h : Fin 16384 → EReal) (g b : EReal) (n : Fin 16384) : EReal :=
  max (Ideal.div (h n - meanOf h) (Ideal.sqrt (varOf h + Ideal.ofBits FTy.f32 925353388#32)) * g + b) 0

/-- The encoder's parameters and its input of two channels. -/
structure Net where
  /-- the two input channels -/
  x : Fin 2 → Fin 16384 → EReal
  /-- the first convolution's weights -/
  w1 : Fin 16 → Fin 2 → Fin 3 → Fin 3 → Fin 3 → EReal
  /-- its bias -/
  b1 : Fin 16 → EReal
  /-- the first normalisation's scale -/
  g1 : Fin 16 → EReal
  /-- its shift -/
  be1 : Fin 16 → EReal
  /-- the second convolution's weights -/
  w2 : Fin 32 → Fin 16 → Fin 3 → Fin 3 → Fin 3 → EReal
  /-- its bias -/
  b2 : Fin 32 → EReal
  /-- the second normalisation's scale -/
  g2 : Fin 32 → EReal
  /-- its shift -/
  be2 : Fin 32 → EReal
  /-- the last, pointwise convolution's weights -/
  w3 : Fin 8 → Fin 32 → EReal
  /-- its bias -/
  b3 : Fin 8 → EReal

namespace Net
variable (N : Net)

/-- The first layer's output. -/
def layer1 (r : Fin 16) (n : Fin 16384) : EReal :=
  normAt (fun k => convAt (N.w1 r) N.x k + N.b1 r) (N.g1 r) (N.be1 r) n

/-- The second layer's output. -/
def layer2 (r : Fin 32) (n : Fin 16384) : EReal :=
  normAt (fun k => convAt (N.w2 r) N.layer1 k + N.b2 r) (N.g2 r) (N.be2 r) n

/-- The latent vector of voxel `n`. -/
def latent (r : Fin 8) (n : Fin 16384) : EReal := ∑ i, N.w3 r i * N.layer2 i n + N.b3 r

/-- The latent vector of voxel `n`, normalised. -/
def unit (r : Fin 8) (n : Fin 16384) : EReal :=
  Ideal.div (N.latent r n) (max (Ideal.sqrt (∑ i, N.latent i n * N.latent i n)) (Ideal.ofBits FTy.f32 730643660#32))

/-- The squared distance of voxel `n`'s normalised latent vector to a key. -/
def dist (key : Fin 8 → EReal) (n : Fin 16384) : EReal :=
  (∑ i, N.unit i n * N.unit i n - Ideal.ofBits FTy.f32 1073741824#32 * ∑ i, key i * N.unit i n) + ∑ i, key i * key i

end Net

/-- A key's weight from its squared distance. -/
def soft (d : EReal) : EReal := Ideal.exp (Ideal.ofBits FTy.f32 3240099840#32 * d)

/-- The lookup's answer for one voxel, from the ten nearest keys `e 0, …, e 9`: the weighted mean of their labels. -/
def answer (d l : Fin 4096 → EReal) (e : ℕ → Fin 4096) : EReal :=
  Ideal.div (∑ j : Fin 10, soft (d (e j.val)) * l (e j.val))
    (∑ j : Fin 10, soft (d (e j.val)) + Ideal.ofBits FTy.f32 841731191#32)

end Cert.Own
-- ==== Proof.Words.lean ====
module
public import proofs.«01_k».proof.Proof.Model
@[expose] public section

/-! The values of two 32-bit patterns. -/

noncomputable section
open Idealize.ShloMosaic

namespace Cert.Own

/-- The pattern of plus infinity. -/
theorem infinity : Ideal.ofBits FTy.f32 0x7F800000#32 = (⊤ : EReal) := by
  simp [Ideal.ofBits, Ideal.ieee]

/-- The number of voxels, as the reference writes it, is positive. -/
theorem voxels_pos : (0 : EReal) < Ideal.ofBits FTy.f32 0x46800000#32 := by
  have h : (0 : EReal) < ((8388608 : ℝ) : EReal) * (((2 ^ 9 : ℝ)⁻¹ : ℝ) : EReal) :=
    EReal.mul_pos (EReal.coe_pos.mpr (by norm_num)) (EReal.coe_pos.mpr (by norm_num))
  simpa [Ideal.ofBits, Ideal.ieee] using h

end Cert.Own
-- ==== Proof.RefSums.lean ====
/-
Three operations of the reference, read at one index: the contraction over channels and window offsets, the sum over a
channel's voxels, and the lookup of one label per neighbour.
-/
module
public import proofs.«01_k».proof.Proof.Words
public import Idealize.ShloMosaic.Lib.IdealHost
public import Idealize.ShloMosaic.Lib.ValueIdxCore
public import Idealize.ShloMosaic.Lib.Pointwise
public import Idealize.ShloMosaic.Lib.KernelVsHost
@[expose] public section
set_option maxRecDepth 16384
noncomputable section
open Idealize.ShloMosaic
namespace Cert.Own

section Contraction
variable {o c : ℕ}
  (wf : DotDims.WF ⟨5, ![o, c, 3, 3, 3]⟩ ⟨7, ![c, 3, 3, 3, 16, 32, 32]⟩ ⟨4, ![o, 16, 32, 32]⟩ [1, 4, 3, 2] [0, 3, 2, 1]
    [0] [4, 5, 6] [] [])

/-- The contraction of a filter with the shifted copies of its input, over channel and the three offsets. -/
abbrev window_dims : DotDims ⟨5, ![o, c, 3, 3, 3]⟩ ⟨7, ![c, 3, 3, 3, 16, 32, 32]⟩ ⟨4, ![o, 16, 32, 32]⟩ where
  lhsContracting := [1, 4, 3, 2]
  rhsContracting := [0, 3, 2, 1]
  lhsNonContracting := [0]
  rhsNonContracting := [4, 5, 6]
  lhsBatch := []
  rhsBatch := []
  wf := wf

/-- The contracted index of a channel and three offsets, which are listed last offset first. -/
def window_index : Fin c × Fin 3 × Fin 3 × Fin 3 ≃ (window_dims wf).contr.Idx where
  toFun p := fun a => match a with
    | ⟨0, _⟩ => p.1
    | ⟨1, _⟩ => p.2.2.2
    | ⟨2, _⟩ => p.2.2.1
    | ⟨3, _⟩ => p.2.1
  invFun k := (k (0 : Fin 4), k (3 : Fin 4), k (2 : Fin 4), k (1 : Fin 4))
  left_inv _ := rfl
  right_inv k := by
    funext a
    match a with
    | ⟨0, _⟩ => rfl
    | ⟨1, _⟩ => rfl
    | ⟨2, _⟩ => rfl
    | ⟨3, _⟩ => rfl

/-- The contraction at one output channel and voxel is the sum of the filter times the shifted copies. -/
theorem window_dot (w : FVec Ideal ⟨5, ![o, c, 3, 3, 3]⟩ .f32) (x : FVec Ideal ⟨7, ![c, 3, 3, 3, 16, 32, 32]⟩ .f32)
    (r : Fin o) (z : Fin 16) (y v : Fin 32) :
    Host.dotGeneral (window_dims wf) none w x (ix4 r z y v)
      = ∑ i : Fin c, ∑ ez : Fin 3, ∑ ey : Fin 3, ∑ ex : Fin 3, w (ix5 r i ez ey ex) * x (ix7 i ez ey ex z y v) := by
  refine (Ideal.dotGeneral_apply _ _ _ w x _).trans ?_
  rw [← Fintype.sum_equiv (window_index wf)
    (fun p => w (ix5 r p.1 p.2.1 p.2.2.1 p.2.2.2) * x (ix7 p.1 p.2.1 p.2.2.1 p.2.2.2 z y v))]
  · simp only [Fintype.sum_prod_type]
  · rintro ⟨i, ez, ey, ex⟩
    congr 1
    · refine congrArg w (funext fun a => ?_)
      match a with
      | ⟨0, _⟩ => rfl
      | ⟨1, _⟩ => rfl
      | ⟨2, _⟩ => rfl
      | ⟨3, _⟩ => rfl
      | ⟨4, _⟩ => rfl
    · refine congrArg x (funext fun a => ?_)
      match a with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl

end Contraction

/-- The voxel of a channel of number `n`, the channels being a block of a batch of one. -/
def voxel {c : ℕ} (r : Fin c) (n : Fin 16384) : (⟨5, ![1, c, 16, 32, 32]⟩ : Shape).Idx :=
  ix5 0 r ⟨n.val / 1024, by omega⟩ ⟨n.val / 32 % 32, by omega⟩ ⟨n.val % 32, by omega⟩

/-- The sum over batch and voxels, at a channel, is the sum over the channel's 16384 voxels. -/
theorem channel_sum {c : ℕ} (h : (⟨5, ![1, c, 16, 32, 32]⟩ : Shape).ReducesTo [0, 2, 3, 4] ⟨1, ![c]⟩)
    (x : (⟨5, ![1, c, 16, 32, 32]⟩ : Shape).Idx → EReal) (r : Fin c) :
    Ideal.hostReduceAdd h x 0 (ix1 r) = ∑ n, x (voxel r n) := by
  unfold Ideal.hostReduceAdd
  rw [zero_add]
  symm
  have hd : ∀ i : (⟨5, ![1, c, 16, 32, 32]⟩ : Shape).Idx, h.drop i = ix1 r ↔ i 1 = r := fun i => by
    have hv : (h.drop i 0).val = (i 1).val := Shape.ReducesTo.drop_apply_val h i 0
    constructor
    · intro e
      rw [e] at hv
      exact Fin.ext hv.symm
    · intro e
      funext b
      obtain rfl : b = 0 := Subsingleton.elim _ _
      exact Fin.ext (by rw [hv, e]; rfl)
  refine Finset.sum_bij (fun n _ => voxel r n) ?_ ?_ ?_ (fun _ _ => rfl)
  · intro n _
    exact Finset.mem_filter.mpr ⟨Finset.mem_univ _, (hd _).mpr rfl⟩
  · intro a _ b _ e
    have e2 : a.val / 1024 = b.val / 1024 := congrArg Fin.val (congrFun e 2)
    have e3 : a.val / 32 % 32 = b.val / 32 % 32 := congrArg Fin.val (congrFun e 3)
    have e4 : a.val % 32 = b.val % 32 := congrArg Fin.val (congrFun e 4)
    exact Fin.ext (by omega)
  · intro i hi
    have h1 : i 1 = r := (hd i).mp (Finset.mem_filter.mp hi).2
    have l0 : (i 0).val < 1 := (i 0).isLt
    have l2 : (i 2).val < 16 := (i 2).isLt
    have l3 : (i 3).val < 32 := (i 3).isLt
    have l4 : (i 4).val < 32 := (i 4).isLt
    refine ⟨⟨1024 * (i 2).val + 32 * (i 3).val + (i 4).val, by omega⟩, Finset.mem_univ _, ?_⟩
    funext a
    match a with
    | ⟨0, _⟩ => exact Fin.ext (by show 0 = (i 0).val; omega)
    | ⟨1, _⟩ => exact h1.symm
    | ⟨2, _⟩ => exact Fin.ext (by show (1024 * (i 2).val + 32 * (i 3).val + (i 4).val) / 1024 = (i 2).val; omega)
    | ⟨3, _⟩ => exact Fin.ext (by show (1024 * (i 2).val + 32 * (i 3).val + (i 4).val) / 32 % 32 = (i 3).val; omega)
    | ⟨4, _⟩ => exact Fin.ext (by show (1024 * (i 2).val + 32 * (i 3).val + (i 4).val) % 32 = (i 4).val; omega)

/-- A lookup at start indices that are column numbers reads the columns' entries. -/
theorem lookup {α : Type}
    (wf : GatherDims.WF ⟨1, ![4096]⟩ ⟨3, ![16384, 10, 1]⟩ ⟨2, ![16384, 10]⟩ [] [0] [] [0] [] 2 ![1])
    (x : (⟨1, ![4096]⟩ : Shape).Idx → α) (s : IVec ⟨3, ![16384, 10, 1]⟩ 32) (n : Fin 16384) (j : Fin 10) (e : Fin 4096)
    (h : s (ix3 n j 0) = BitVec.ofNat 32 e.val) :
    Host.gather (ValueIdx.takeDims 4096 16384 10 wf) x s (ix2 n j) = x (ix1 e) := by
  refine (ValueIdx.gather_take_apply (by omega) wf x s (ix2 n j)).trans (congrArg x ?_)
  have hi : s (ValueIdx.takeIdx (ix2 n j)) = s (ix3 n j 0) :=
    congrArg s (funext fun a => match a with | ⟨0, _⟩ => rfl | ⟨1, _⟩ => rfl | ⟨2, _⟩ => rfl)
  have hv : (BitVec.ofNat 32 e.val).toInt = (e.val : ℤ) := by
    have := e.isLt
    rw [BitVec.toInt_eq_toNat_cond, BitVec.toNat_ofNat]
    split <;> omega
  have hc : min (s (ValueIdx.takeIdx (ix2 n j))).toInt.toNat (4096 - 1) = e.val := by
    rw [hi, h, hv]
    have := e.isLt
    omega
  funext a
  obtain rfl : a = 0 := Subsingleton.elim _ _
  exact Fin.ext hc

/-- A filter contracted with the shifted copies of a bordered volume is the convolution: `P` is the bordered volume, and
    `A`, `B`, `C` hold its copies shifted along planes, then lines, then columns. -/
theorem stacked_conv {o c : ℕ}
    (wf : DotDims.WF ⟨5, ![o, c, 3, 3, 3]⟩ ⟨7, ![c, 3, 3, 3, 16, 32, 32]⟩ ⟨4, ![o, 16, 32, 32]⟩ [1, 4, 3, 2] [0, 3, 2, 1]
      [0] [4, 5, 6] [] [])
    (x : Fin c → Fin 16384 → EReal) (w : FVec Ideal ⟨5, ![o, c, 3, 3, 3]⟩ .f32) (P : FVec Ideal ⟨4, ![c, 18, 34, 34]⟩ .f32)
    (A : FVec Ideal ⟨5, ![c, 3, 16, 34, 34]⟩ .f32) (B : FVec Ideal ⟨6, ![c, 3, 3, 16, 32, 34]⟩ .f32)
    (C : FVec Ideal ⟨7, ![c, 3, 3, 3, 16, 32, 32]⟩ .f32)
    (hP : ∀ i a b e, P (ix4 i a b e) = padded (x i) a.val b.val e.val)
    (hA : ∀ i ez z b e, A (ix5 i ez z b e) = P (ix4 i ⟨ez.val + z.val, by omega⟩ b e))
    (hB : ∀ i ez ey z y e, B (ix6 i ez ey z y e) = A (ix5 i ez z ⟨ey.val + y.val, by omega⟩ e))
    (hC : ∀ i ez ey ex z y v, C (ix7 i ez ey ex z y v) = B (ix6 i ez ey z y ⟨ex.val + v.val, by omega⟩))
    (r : Fin o) (n : Fin 16384) :
    Host.dotGeneral (window_dims wf) none w C
        (ix4 r ⟨n.val / 1024, by omega⟩ ⟨n.val / 32 % 32, by omega⟩ ⟨n.val % 32, by omega⟩)
      = convAt (fun i ez ey ex => w (ix5 r i ez ey ex)) x n := by
  rw [window_dot]
  unfold convAt tap
  refine Finset.sum_congr rfl fun i _ => Finset.sum_congr rfl fun ez _ => Finset.sum_congr rfl fun ey _ =>
    Finset.sum_congr rfl fun ex _ => congrArg (w (ix5 r i ez ey ex) * ·) ?_
  show C _ = _
  rw [hC, hB, hA, hP]
  simp only [add_comm]

/-- Volumes with a border of zeros, read at the bordered coordinates. -/
theorem bordered {c : ℕ}
    (h : (⟨4, ![c, 16, 32, 32]⟩ : Shape).Pads (![0, 1, 1, 1] : Fin 4 → ℕ) ![0, 1, 1, 1] ![0, 0, 0, 0] ⟨4, ![c, 18, 34, 34]⟩)
    (h0 : 0 < (⟨0, ![]⟩ : Shape).numel) (x : FVec Ideal ⟨4, ![c, 16, 32, 32]⟩ .f32) (v : FVec Ideal ⟨0, ![]⟩ .f32)
    (f : Fin c → Fin 16384 → EReal) (hv : v ix0 = (0 : EReal))
    (hf : ∀ i n, x (ix4 i ⟨n.val / 1024, by omega⟩ ⟨n.val / 32 % 32, by omega⟩ ⟨n.val % 32, by omega⟩) = f i n)
    (i : Fin c) (a : Fin 18) (b e : Fin 34) :
    pad ⟨4, ![c, 18, 34, 34]⟩ ![0, 1, 1, 1] ![0, 1, 1, 1] ![0, 0, 0, 0] x v h h0 (ix4 i a b e)
      = padded (f i) a.val b.val e.val := by
  unfold padded
  split
  · rename_i hin
    refine (pad_apply_of_inside _ _ _ _ _ _ _ _
      (ix4 i ⟨a.val - 1, by omega⟩ ⟨b.val - 1, by omega⟩ ⟨e.val - 1, by omega⟩) (fun q => match q with
        | ⟨0, _⟩ => by show i.val = 0 + i.val * (0 + 1); omega
        | ⟨1, _⟩ => by show a.val = 1 + (a.val - 1) * (0 + 1); omega
        | ⟨2, _⟩ => by show b.val = 1 + (b.val - 1) * (0 + 1); omega
        | ⟨3, _⟩ => by show e.val = 1 + (e.val - 1) * (0 + 1); omega)).trans ?_
    rw [← hf]
    congr 2 <;> refine Fin.ext ?_ <;> dsimp only <;> omega
  · rename_i hout
    have hz : v (Shape.Idx.first h0) = (0 : EReal) := by rw [← hv, ix0_eta]
    have hor : ¬(1 ≤ a.val ∧ a.val ≤ 16) ∨ ¬(1 ≤ b.val ∧ b.val ≤ 32) ∨ ¬(1 ≤ e.val ∧ e.val ≤ 32) := by omega
    rcases hor with ho | ho | ho
    · refine (pad_apply_of_not_inside _ _ _ _ _ _ _ _ (1 : Fin 4) ?_).trans hz
      rintro ⟨h1, -, h2⟩
      change 1 ≤ a.val at h1
      change (a.val - 1) / 1 < 16 at h2
      omega
    · refine (pad_apply_of_not_inside _ _ _ _ _ _ _ _ (2 : Fin 4) ?_).trans hz
      rintro ⟨h1, -, h2⟩
      change 1 ≤ b.val at h1
      change (b.val - 1) / 1 < 32 at h2
      omega
    · refine (pad_apply_of_not_inside _ _ _ _ _ _ _ _ (3 : Fin 4) ?_).trans hz
      rintro ⟨h1, -, h2⟩
      change 1 ≤ e.val at h1
      change (e.val - 1) / 1 < 32 at h2
      omega

/-- The reference's normalisation of a channel, its variance guarded by a test of the number of voxels. -/
theorem normalised {c : ℕ} (h : (⟨5, ![1, c, 16, 32, 32]⟩ : Shape).ReducesTo [0, 2, 3, 4] ⟨1, ![c]⟩)
    (P Q : FVec Ideal ⟨5, ![1, c, 16, 32, 32]⟩ .f32) (q : (⟨5, ![1, c, 16, 32, 32]⟩ : Shape).Idx) (R v g b : EReal)
    (r : Fin c) (n : Fin 16384) (hq : q = voxel r n) (hR : R = Ideal.ofBits FTy.f32 1182793728#32)
    (hQ : ∀ k, Q (voxel r k) = (P (voxel r k) - meanOf fun n => P (voxel r n) : EReal)) :
    max (Ideal.div (P q - Ideal.div (Ideal.hostReduceAdd h P 0 (ix1 r)) (Ideal.ofBits FTy.f32 1182793728#32))
        (Ideal.sqrt ((if 0 < R then Ideal.div (Ideal.hostReduceAdd h (mulf Q Q) 0 (ix1 r)) R else v)
          + Ideal.ofBits FTy.f32 925353388#32)) * g + b) 0
      = normAt (fun k => P (voxel r k)) g b n := by
  subst hR hq
  rw [if_pos voxels_pos, channel_sum, channel_sum]
  unfold normAt varOf
  simp only [mulf_apply, hQ]
  rfl

end Cert.Own
-- ==== Proof.Steps.lean ====
module
public import proofs.«01_k».proof.Proof.Taps
public import Idealize.ShloMosaic.Lib.Pipeline.ValueKit
@[expose] public section
set_option maxRecDepth 16384

/-! One step of the body's convolution sum, for each kind of in-plane shift, and reads of blocks of rows. -/

noncomputable section
open Idealize.ShloMosaic

namespace Cert.Own

/-- A block of an operand's rows and columns, read out of the whole operand. -/
theorem read_rows {sig : RefSig} {A B : ℕ} (arg : Memref sig .tc .vmem (Sh A B) .f32) (harg : arg.IsWhole)
    (x : Vec Ideal (Sh A B) .f32) (off size : Fin 2 → ℕ) (inb) (j : (Rect.unit (s := Sh A B) off size inb).shape.Idx)
    (i : (Sh A B).Idx) (hi : ∀ a, (i a : ℕ) = off a + j a) :
    View.readAt (Elt Ideal) arg.view (Rect.unit (s := Sh A B) off size inb).toLoadRect (harg.unread x) j = x i := by
  rw [View.readAt_eq_ld, harg.read_unread]
  exact View.ld_unit_apply_of x off size inb j i hi

/-- The weights of an array of nine blocks of `o` rows, one block for each in-plane offset, each row three blocks of `c`
columns, one for each plane. -/
def weightOf {o c A B : ℕ} (hA : A = 9 * o) (hB : B = 3 * c) (w : FVec Ideal (Sh A B) .f32) (r : Fin o) (i : Fin c)
    (ez ey ex : Fin 3) : EReal :=
  w (ix2 ⟨o * (3 * ey.val + ex.val) + r.val, by
      have := r.isLt; have := ey.isLt; have := ex.isLt; subst hA
      calc o * (3 * ey.val + ex.val) + r.val < o * (3 * ey.val + ex.val) + o * 1 := by omega
        _ = o * (3 * ey.val + ex.val + 1) := by ring
        _ ≤ o * 9 := Nat.mul_le_mul_left _ (by omega)
        _ = 9 * o := by ring⟩
    ⟨ez.val * c + i.val, by
      have := i.isLt; have := ez.isLt; subst hB
      calc ez.val * c + i.val < ez.val * c + 1 * c := by omega
        _ = (ez.val + 1) * c := by ring
        _ ≤ 3 * c := Nat.mul_le_mul_right _ (by omega)⟩)

/-- Block `(ey, ex)` of rows of the weights at row `r`, column `k = ez c + i`. -/
theorem read_weight {sig : RefSig} {o c A B : ℕ} (hA : A = 9 * o) (hB : B = 3 * c)
    (arg : Memref sig .tc .vmem (Sh A B) .f32) (harg : arg.IsWhole) (x : Vec Ideal (Sh A B) .f32) (ey ex : Fin 3)
    (off : ℕ) (hoff : off = o * (3 * ey.val + ex.val)) (inb) (r : Fin o) (k : Fin B) (ez : Fin 3) (i : Fin c)
    (hk : k.val = ez.val * c + i.val) :
    View.readAt (Elt Ideal) arg.view (Rect.unit (s := Sh A B) ![off, 0] ![o, B] inb).toLoadRect (harg.unread x)
      (ix2 (n0 := o) (n1 := B) r k) = weightOf hA hB x r i ez ey ex := by
  unfold weightOf
  refine read_rows arg harg x _ _ inb _ _ fun a => ?_
  match a with
  | ⟨0, _⟩ => exact congrArg (· + r.val) hoff.symm
  | ⟨1, _⟩ => exact hk.symm.trans (Nat.zero_add _).symm

/-- One in-plane offset's part of the convolution at voxel `n`. -/
def part {c : ℕ} (W : Fin c → Fin 3 → Fin 3 → Fin 3 → EReal) (x : FVec Ideal (Sh c 16384) .f32) (n : Fin 16384)
    (ey ex : Fin 3) : EReal :=
  ∑ ez : Fin 3, ∑ i, W i ez ey ex * tap (fun k => x (ix2 i k)) n ez ey ex

variable {c d o s r' : ℕ} (D : DotDims (Sh o d) (Sh d 16384) (Sh o 16384)) (hD : D = DotDims.plain o d 16384)
  (hd : d = 3 * c) (ey ex : Fin 3) (acc tot : FVec Ideal (Sh o 16384) .f32) (w : FVec Ideal (Sh o d) .f32)
  (x y : FVec Ideal (Sh c 16384) .f32) (mk : FVec Ideal (Sh 1 16384) .f32)
  (hmk : ∀ k, mk (ix2 0 k) = maskAt ey ex k)
  (hb : (Sh 1 16384).Broadcasts (Sh c 16384))
  (h1 : (Sh c 16384).Slices ![0, 0] (Sh c 15360)) (h2 : Shape.Concatenates [Sh c 1024, Sh c 15360] (Sh c 16384) 1)
  (h3 : (Sh c 16384).Slices ![0, 1024] (Sh c 15360)) (h4 : Shape.Concatenates [Sh c 15360, Sh c 1024] (Sh c 16384) 1)
  (h5 : Shape.Concatenates [Sh c 16384, Sh c 16384, Sh c 16384] (Sh d 16384) 0)
  (h6 : (Sh o d).ShapeCasts (Sh o d))
  (W : Fin c → Fin 3 → Fin 3 → Fin 3 → EReal) (r : Fin o) (n : Fin 16384)
  (hW : ∀ (k : Fin d) (ez : Fin 3) (i : Fin c), k.val = ez.val * c + i.val → w (ix2 r k) = W i ez ey ex)

include hD hd hW in
/-- A step whose masked shift reads as it should adds the offset's part. -/
theorem step_of (htot : tot = addf acc (planeDot c d o D w y h1 h2 h3 h4 h5 h6))
    (hy : ∀ (i : Fin c) (k : Fin 16384), y (ix2 i k)
      = ext x i ((k.val : ℤ) + (32 * ((ey.val : ℤ) - 1) + ((ex.val : ℤ) - 1))) * maskAt ey ex k) :
    tot (ix2 r n) = acc (ix2 r n) + part W x n ey ex := by
  subst htot
  show acc (ix2 r n) + planeDot c d o D w y h1 h2 h3 h4 h5 h6 (ix2 r n) = _
  rw [planeDot_tap D hD hd w x y h1 h2 h3 h4 h5 h6 ey ex (fun ez i => W i ez ey ex) r n hW hy]
  rfl

include hmk in
/-- A masked array at an index. -/
theorem masked_apply (z : FVec Ideal (Sh c 16384) .f32) (i : Fin c) (k : Fin 16384) :
    mulf z (broadcastTo (Sh c 16384) mk hb) (ix2 i k) = z (ix2 i k) * maskAt ey ex k := by
  rw [← hmk k]
  pointwise

include hD hd hmk hW in
/-- A step whose in-plane shift is to the right. -/
theorem step_right (hs : (Sh c 16384).Slices ![0, 0] (Sh c r')) (hc : Shape.Concatenates [Sh c s, Sh c r'] (Sh c 16384) 1)
    (hr : s + r' = 16384) (he : 32 * ((ey.val : ℤ) - 1) + ((ex.val : ℤ) - 1) = -(s : ℤ))
    (htot : tot = addf acc (planeDot c d o D w
      (mulf (moveRight c s r' x hs hc) (broadcastTo (Sh c 16384) mk hb)) h1 h2 h3 h4 h5 h6)) :
    tot (ix2 r n) = acc (ix2 r n) + part W x n ey ex := by
  refine step_of D hD hd ey ex acc tot w x _ h1 h2 h3 h4 h5 h6 W r n hW htot fun i k => ?_
  rw [masked_apply ey ex mk hmk, moveRight_apply x hs hc i k hr, he]
  rfl

include hD hd hmk hW in
/-- A step whose in-plane shift is to the left. -/
theorem step_left (hs : (Sh c 16384).Slices ![0, s] (Sh c r')) (hc : Shape.Concatenates [Sh c r', Sh c s] (Sh c 16384) 1)
    (hr : s + r' = 16384) (he : 32 * ((ey.val : ℤ) - 1) + ((ex.val : ℤ) - 1) = (s : ℤ))
    (htot : tot = addf acc (planeDot c d o D w
      (mulf (moveLeft c s r' x hs hc) (broadcastTo (Sh c 16384) mk hb)) h1 h2 h3 h4 h5 h6)) :
    tot (ix2 r n) = acc (ix2 r n) + part W x n ey ex := by
  refine step_of D hD hd ey ex acc tot w x _ h1 h2 h3 h4 h5 h6 W r n hW htot fun i k => ?_
  rw [masked_apply ey ex mk hmk, moveLeft_apply x hs hc i k hr, he]

include hD hd hmk hW in
/-- The step without an in-plane shift. -/
theorem step_none (he : 32 * ((ey.val : ℤ) - 1) + ((ex.val : ℤ) - 1) = 0)
    (htot : tot = addf acc (planeDot c d o D w
      (mulf x (broadcastTo (Sh c 16384) mk hb)) h1 h2 h3 h4 h5 h6)) :
    tot (ix2 r n) = acc (ix2 r n) + part W x n ey ex := by
  refine step_of D hD hd ey ex acc tot w x _ h1 h2 h3 h4 h5 h6 W r n hW htot fun i k => ?_
  rw [masked_apply ey ex mk hmk, he, add_zero, ext, dif_pos ⟨by omega, by omega⟩]
  rfl

end Cert.Own
-- ==== Proof.Conv1.lean ====
module
public import proofs.«01_k».proof.Proof.Steps
@[expose] public section
set_option maxRecDepth 16384

/-! The body's first convolution, step by step over the nine in-plane offsets. -/

noncomputable section
open Idealize.ShloMosaic

namespace Cert.Own
open Cert.KernelIdeal Cert.KernelIdeal.Gen Cert.KernelIdeal.Gen.kernelRun0_A

variable (c : Dev nD) (arg1 : Memref sig .tc .vmem S8x16384 .f32) (harg1 : arg1.IsWhole)
  (arg2 : Memref sig .tc .vmem S144x24 .f32) (harg2 : arg2.IsWhole)
  (x0 : Vec Ideal S8x16384 .f32) (x1 : Vec Ideal S144x24 .f32) (r : Fin 16) (n : Fin 16384)

/-- The weights of the first convolution. -/
abbrev wt1 (x1 : Vec Ideal S144x24 .f32) : Fin 16 → Fin 8 → Fin 3 → Fin 3 → Fin 3 → EReal :=
  weightOf (o := 16) (c := 8) (A := 144) (B := 24) rfl rfl x1

/-- The step of the offset (-1, -1). -/
theorem conv1_0 : sl.v316 c arg1 harg1 arg2 harg2 x0 x1 (ix2 r n)
    = sl.v300 (F := Ideal) (ix2 r n) + part (wt1 x1 r) (sl.v299 c arg1 harg1 x0) n 0 0 :=
  step_right (s := 33) (r' := 16351) dot_S16x24_S24x16384_S16x16384_1_0_0_1_n_n rfl rfl 0 0 _ _ _ _ (sl.v183 (F := Ideal)) mask0
    (by decide) (by decide) (by decide) (by decide) (by decide) (by decide) (by decide) _ r n
    (fun k ez i hk => read_weight rfl rfl arg2 harg2 x1 0 0 _ rfl _ r k ez i hk) (by decide) (by decide) rfl rfl rfl

/-- The step of the offset (-1, 0). -/
theorem conv1_1 : sl.v332 c arg1 harg1 arg2 harg2 x0 x1 (ix2 r n)
    = sl.v316 c arg1 harg1 arg2 harg2 x0 x1 (ix2 r n) + part (wt1 x1 r) (sl.v299 c arg1 harg1 x0) n 0 1 :=
  step_right (s := 32) (r' := 16352) dot_S16x24_S24x16384_S16x16384_1_0_0_1_n_n rfl rfl 0 1 _ _ _ _ (sl.v195 (F := Ideal)) mask1
    (by decide) (by decide) (by decide) (by decide) (by decide) (by decide) (by decide) _ r n
    (fun k ez i hk => read_weight rfl rfl arg2 harg2 x1 0 1 _ rfl _ r k ez i hk) (by decide) (by decide) rfl rfl rfl

/-- The step of the offset (-1, 1). -/
theorem conv1_2 : sl.v348 c arg1 harg1 arg2 harg2 x0 x1 (ix2 r n)
    = sl.v332 c arg1 harg1 arg2 harg2 x0 x1 (ix2 r n) + part (wt1 x1 r) (sl.v299 c arg1 harg1 x0) n 0 2 :=
  step_right (s := 31) (r' := 16353) dot_S16x24_S24x16384_S16x16384_1_0_0_1_n_n rfl rfl 0 2 _ _ _ _ (sl.v207 (F := Ideal)) mask2
    (by decide) (by decide) (by decide) (by decide) (by decide) (by decide) (by decide) _ r n
    (fun k ez i hk => read_weight rfl rfl arg2 harg2 x1 0 2 _ rfl _ r k ez i hk) (by decide) (by decide) rfl rfl rfl

/-- The step of the offset (0, -1). -/
theorem conv1_3 : sl.v364 c arg1 harg1 arg2 harg2 x0 x1 (ix2 r n)
    = sl.v348 c arg1 harg1 arg2 harg2 x0 x1 (ix2 r n) + part (wt1 x1 r) (sl.v299 c arg1 harg1 x0) n 1 0 :=
  step_right (s := 1) (r' := 16383) dot_S16x24_S24x16384_S16x16384_1_0_0_1_n_n rfl rfl 1 0 _ _ _ _ (sl.v228 (F := Ideal)) mask3
    (by decide) (by decide) (by decide) (by decide) (by decide) (by decide) (by decide) _ r n
    (fun k ez i hk => read_weight rfl rfl arg2 harg2 x1 1 0 _ rfl _ r k ez i hk) (by decide) (by decide) rfl rfl rfl

/-- The step of the offset (0, 0). -/
theorem conv1_4 : sl.v377 c arg1 harg1 arg2 harg2 x0 x1 (ix2 r n)
    = sl.v364 c arg1 harg1 arg2 harg2 x0 x1 (ix2 r n) + part (wt1 x1 r) (sl.v299 c arg1 harg1 x0) n 1 1 :=
  step_none dot_S16x24_S24x16384_S16x16384_1_0_0_1_n_n rfl rfl 1 1 _ _ _ _ (sl.v240 (F := Ideal)) mask4
    (by decide) (by decide) (by decide) (by decide) (by decide) (by decide) (by decide) _ r n
    (fun k ez i hk => read_weight rfl rfl arg2 harg2 x1 1 1 _ rfl _ r k ez i hk) rfl rfl

/-- The step of the offset (0, 1). -/
theorem conv1_5 : sl.v393 c arg1 harg1 arg2 harg2 x0 x1 (ix2 r n)
    = sl.v377 c arg1 harg1 arg2 harg2 x0 x1 (ix2 r n) + part (wt1 x1 r) (sl.v299 c arg1 harg1 x0) n 1 2 :=
  step_left (s := 1) (r' := 16383) dot_S16x24_S24x16384_S16x16384_1_0_0_1_n_n rfl rfl 1 2 _ _ _ _ (sl.v252 (F := Ideal)) mask5
    (by decide) (by decide) (by decide) (by decide) (by decide) (by decide) (by decide) _ r n
    (fun k ez i hk => read_weight rfl rfl arg2 harg2 x1 1 2 _ rfl _ r k ez i hk) (by decide) (by decide) rfl rfl rfl

/-- The step of the offset (1, -1). -/
theorem conv1_6 : sl.v409 c arg1 harg1 arg2 harg2 x0 x1 (ix2 r n)
    = sl.v393 c arg1 harg1 arg2 harg2 x0 x1 (ix2 r n) + part (wt1 x1 r) (sl.v299 c arg1 harg1 x0) n 2 0 :=
  step_left (s := 31) (r' := 16353) dot_S16x24_S24x16384_S16x16384_1_0_0_1_n_n rfl rfl 2 0 _ _ _ _ (sl.v273 (F := Ideal)) mask6
    (by decide) (by decide) (by decide) (by decide) (by decide) (by decide) (by decide) _ r n
    (fun k ez i hk => read_weight rfl rfl arg2 harg2 x1 2 0 _ rfl _ r k ez i hk) (by decide) (by decide) rfl rfl rfl

/-- The step of the offset (1, 0). -/
theorem conv1_7 : sl.v425 c arg1 harg1 arg2 harg2 x0 x1 (ix2 r n)
    = sl.v409 c arg1 harg1 arg2 harg2 x0 x1 (ix2 r n) + part (wt1 x1 r) (sl.v299 c arg1 harg1 x0) n 2 1 :=
  step_left (s := 32) (r' := 16352) dot_S16x24_S24x16384_S16x16384_1_0_0_1_n_n rfl rfl 2 1 _ _ _ _ (sl.v285 (F := Ideal)) mask7
    (by decide) (by decide) (by decide) (by decide) (by decide) (by decide) (by decide) _ r n
    (fun k ez i hk => read_weight rfl rfl arg2 harg2 x1 2 1 _ rfl _ r k ez i hk) (by decide) (by decide) rfl rfl rfl

/-- The step of the offset (1, 1). -/
theorem conv1_8 : sl.v441 c arg1 harg1 arg2 harg2 x0 x1 (ix2 r n)
    = sl.v425 c arg1 harg1 arg2 harg2 x0 x1 (ix2 r n) + part (wt1 x1 r) (sl.v299 c arg1 harg1 x0) n 2 2 :=
  step_left (s := 33) (r' := 16351) dot_S16x24_S24x16384_S16x16384_1_0_0_1_n_n rfl rfl 2 2 _ _ _ _ (sl.v297 (F := Ideal)) mask8
    (by decide) (by decide) (by decide) (by decide) (by decide) (by decide) (by decide) _ r n
    (fun k ez i hk => read_weight rfl rfl arg2 harg2 x1 2 2 _ rfl _ r k ez i hk) (by decide) (by decide) rfl rfl rfl

/-- The first convolution's sum, before its bias: the convolution of the eight rows read. -/
theorem conv1_sum : sl.v441 c arg1 harg1 arg2 harg2 x0 x1 (ix2 r n)
    = convAt (wt1 x1 r) (fun i k => sl.v299 c arg1 harg1 x0 (ix2 i k)) n := by
  rw [conv1_8, conv1_7, conv1_6, conv1_5, conv1_4, conv1_3, conv1_2, conv1_1, conv1_0]
  have h0 : sl.v300 (F := Ideal) (ix2 r n) = (0 : EReal) := by
    show Ideal.ofBits FTy.f32 0#32 = 0
    pointwise
  rw [h0]
  exact nine_taps (wt1 x1 r) (fun i k => sl.v299 c arg1 harg1 x0 (ix2 i k)) n _ fun _ _ => rfl

end Cert.Own
-- ==== Proof.Conv2.lean ====
module
public import proofs.«01_k».proof.Proof.Steps
@[expose] public section
set_option maxRecDepth 16384

/-! The body's second convolution, step by step over the nine in-plane offsets. -/

noncomputable section
open Idealize.ShloMosaic

namespace Cert.Own
open Cert.KernelIdeal Cert.KernelIdeal.Gen Cert.KernelIdeal.Gen.kernelRun0_A

variable (c : Dev nD) (arg1 : Memref sig .tc .vmem S8x16384 .f32) (harg1 : arg1.IsWhole)
  (arg2 : Memref sig .tc .vmem S144x24 .f32) (harg2 : arg2.IsWhole) (arg3 : Memref sig .tc .vmem S16x1 .f32) (harg3 : arg3.IsWhole)
  (arg4 : Memref sig .tc .vmem S16x1 .f32) (harg4 : arg4.IsWhole) (arg5 : Memref sig .tc .vmem S16x1 .f32) (harg5 : arg5.IsWhole)
  (arg6 : Memref sig .tc .vmem S288x48 .f32) (harg6 : arg6.IsWhole)
  (x0 : Vec Ideal S8x16384 .f32) (x1 : Vec Ideal S144x24 .f32) (x2 x3 x4 : Vec Ideal S16x1 .f32) (x5 : Vec Ideal S288x48 .f32)
  (r : Fin 32) (n : Fin 16384)

/-- The weights of the second convolution. -/
abbrev wt2 (x5 : Vec Ideal S288x48 .f32) : Fin 32 → Fin 16 → Fin 3 → Fin 3 → Fin 3 → EReal :=
  weightOf (o := 32) (c := 16) (A := 288) (B := 48) rfl rfl x5

/-- The step of the offset (-1, -1). -/
theorem conv2_0 : sl.v490 c arg1 harg1 arg2 harg2 arg3 harg3 arg4 harg4 arg5 harg5 arg6 harg6 x0 x1 x2 x3 x4 x5 (ix2 r n)
    = sl.v474 (F := Ideal) (ix2 r n) + part (wt2 x5 r) (sl.v473 c arg1 harg1 arg2 harg2 arg3 harg3 arg4 harg4 arg5 harg5 x0 x1 x2 x3 x4) n 0 0 :=
  step_right (s := 33) (r' := 16351) dot_S32x48_S48x16384_S32x16384_1_0_0_1_n_n rfl rfl 0 0 _ _ _ _ (sl.v183 (F := Ideal)) mask0
    (by decide) (by decide) (by decide) (by decide) (by decide) (by decide) (by decide) _ r n
    (fun k ez i hk => read_weight rfl rfl arg6 harg6 x5 0 0 _ rfl _ r k ez i hk) (by decide) (by decide) rfl rfl rfl

/-- The step of the offset (-1, 0). -/
theorem conv2_1 : sl.v506 c arg1 harg1 arg2 harg2 arg3 harg3 arg4 harg4 arg5 harg5 arg6 harg6 x0 x1 x2 x3 x4 x5 (ix2 r n)
    = sl.v490 c arg1 harg1 arg2 harg2 arg3 harg3 arg4 harg4 arg5 harg5 arg6 harg6 x0 x1 x2 x3 x4 x5 (ix2 r n) + part (wt2 x5 r) (sl.v473 c arg1 harg1 arg2 harg2 arg3 harg3 arg4 harg4 arg5 harg5 x0 x1 x2 x3 x4) n 0 1 :=
  step_right (s := 32) (r' := 16352) dot_S32x48_S48x16384_S32x16384_1_0_0_1_n_n rfl rfl 0 1 _ _ _ _ (sl.v195 (F := Ideal)) mask1
    (by decide) (by decide) (by decide) (by decide) (by decide) (by decide) (by decide) _ r n
    (fun k ez i hk => read_weight rfl rfl arg6 harg6 x5 0 1 _ rfl _ r k ez i hk) (by decide) (by decide) rfl rfl rfl

/-- The step of the offset (-1, 1). -/
theorem conv2_2 : sl.v522 c arg1 harg1 arg2 harg2 arg3 harg3 arg4 harg4 arg5 harg5 arg6 harg6 x0 x1 x2 x3 x4 x5 (ix2 r n)
    = sl.v506 c arg1 harg1 arg2 harg2 arg3 harg3 arg4 harg4 arg5 harg5 arg6 harg6 x0 x1 x2 x3 x4 x5 (ix2 r n) + part (wt2 x5 r) (sl.v473 c arg1 harg1 arg2 harg2 arg3 harg3 arg4 harg4 arg5 harg5 x0 x1 x2 x3 x4) n 0 2 :=
  step_right (s := 31) (r' := 16353) dot_S32x48_S48x16384_S32x16384_1_0_0_1_n_n rfl rfl 0 2 _ _ _ _ (sl.v207 (F := Ideal)) mask2
    (by decide) (by decide) (by decide) (by decide) (by decide) (by decide) (by decide) _ r n
    (fun k ez i hk => read_weight rfl rfl arg6 harg6 x5 0 2 _ rfl _ r k ez i hk) (by decide) (by decide) rfl rfl rfl

/-- The step of the offset (0, -1). -/
theorem conv2_3 : sl.v538 c arg1 harg1 arg2 harg2 arg3 harg3 arg4 harg4 arg5 harg5 arg6 harg6 x0 x1 x2 x3 x4 x5 (ix2 r n)
    = sl.v522 c arg1 harg1 arg2 harg2 arg3 harg3 arg4 harg4 arg5 harg5 arg6 harg6 x0 x1 x2 x3 x4 x5 (ix2 r n) + part (wt2 x5 r) (sl.v473 c arg1 harg1 arg2 harg2 arg3 harg3 arg4 harg4 arg5 harg5 x0 x1 x2 x3 x4) n 1 0 :=
  step_right (s := 1) (r' := 16383) dot_S32x48_S48x16384_S32x16384_1_0_0_1_n_n rfl rfl 1 0 _ _ _ _ (sl.v228 (F := Ideal)) mask3
    (by decide) (by decide) (by decide) (by decide) (by decide) (by decide) (by decide) _ r n
    (fun k ez i hk => read_weight rfl rfl arg6 harg6 x5 1 0 _ rfl _ r k ez i hk) (by decide) (by decide) rfl rfl rfl

/-- The step of the offset (0, 0). -/
theorem conv2_4 : sl.v551 c arg1 harg1 arg2 harg2 arg3 harg3 arg4 harg4 arg5 harg5 arg6 harg6 x0 x1 x2 x3 x4 x5 (ix2 r n)
    = sl.v538 c arg1 harg1 arg2 harg2 arg3 harg3 arg4 harg4 arg5 harg5 arg6 harg6 x0 x1 x2 x3 x4 x5 (ix2 r n) + part (wt2 x5 r) (sl.v473 c arg1 harg1 arg2 harg2 arg3 harg3 arg4 harg4 arg5 harg5 x0 x1 x2 x3 x4) n 1 1 :=
  step_none dot_S32x48_S48x16384_S32x16384_1_0_0_1_n_n rfl rfl 1 1 _ _ _ _ (sl.v240 (F := Ideal)) mask4
    (by decide) (by decide) (by decide) (by decide) (by decide) (by decide) (by decide) _ r n
    (fun k ez i hk => read_weight rfl rfl arg6 harg6 x5 1 1 _ rfl _ r k ez i hk) rfl rfl

/-- The step of the offset (0, 1). -/
theorem conv2_5 : sl.v567 c arg1 harg1 arg2 harg2 arg3 harg3 arg4 harg4 arg5 harg5 arg6 harg6 x0 x1 x2 x3 x4 x5 (ix2 r n)
    = sl.v551 c arg1 harg1 arg2 harg2 arg3 harg3 arg4 harg4 arg5 harg5 arg6 harg6 x0 x1 x2 x3 x4 x5 (ix2 r n) + part (wt2 x5 r) (sl.v473 c arg1 harg1 arg2 harg2 arg3 harg3 arg4 harg4 arg5 harg5 x0 x1 x2 x3 x4) n 1 2 :=
  step_left (s := 1) (r' := 16383) dot_S32x48_S48x16384_S32x16384_1_0_0_1_n_n rfl rfl 1 2 _ _ _ _ (sl.v252 (F := Ideal)) mask5
    (by decide) (by decide) (by decide) (by decide) (by decide) (by decide) (by decide) _ r n
    (fun k ez i hk => read_weight rfl rfl arg6 harg6 x5 1 2 _ rfl _ r k ez i hk) (by decide) (by decide) rfl rfl rfl

/-- The step of the offset (1, -1). -/
theorem conv2_6 : sl.v583 c arg1 harg1 arg2 harg2 arg3 harg3 arg4 harg4 arg5 harg5 arg6 harg6 x0 x1 x2 x3 x4 x5 (ix2 r n)
    = sl.v567 c arg1 harg1 arg2 harg2 arg3 harg3 arg4 harg4 arg5 harg5 arg6 harg6 x0 x1 x2 x3 x4 x5 (ix2 r n) + part (wt2 x5 r) (sl.v473 c arg1 harg1 arg2 harg2 arg3 harg3 arg4 harg4 arg5 harg5 x0 x1 x2 x3 x4) n 2 0 :=
  step_left (s := 31) (r' := 16353) dot_S32x48_S48x16384_S32x16384_1_0_0_1_n_n rfl rfl 2 0 _ _ _ _ (sl.v273 (F := Ideal)) mask6
    (by decide) (by decide) (by decide) (by decide) (by decide) (by decide) (by decide) _ r n
    (fun k ez i hk => read_weight rfl rfl arg6 harg6 x5 2 0 _ rfl _ r k ez i hk) (by decide) (by decide) rfl rfl rfl

/-- The step of the offset (1, 0). -/
theorem conv2_7 : sl.v599 c arg1 harg1 arg2 harg2 arg3 harg3 arg4 harg4 arg5 harg5 arg6 harg6 x0 x1 x2 x3 x4 x5 (ix2 r n)
    = sl.v583 c arg1 harg1 arg2 harg2 arg3 harg3 arg4 harg4 arg5 harg5 arg6 harg6 x0 x1 x2 x3 x4 x5 (ix2 r n) + part (wt2 x5 r) (sl.v473 c arg1 harg1 arg2 harg2 arg3 harg3 arg4 harg4 arg5 harg5 x0 x1 x2 x3 x4) n 2 1 :=
  step_left (s := 32) (r' := 16352) dot_S32x48_S48x16384_S32x16384_1_0_0_1_n_n rfl rfl 2 1 _ _ _ _ (sl.v285 (F := Ideal)) mask7
    (by decide) (by decide) (by decide) (by decide) (by decide) (by decide) (by decide) _ r n
    (fun k ez i hk => read_weight rfl rfl arg6 harg6 x5 2 1 _ rfl _ r k ez i hk) (by decide) (by decide) rfl rfl rfl

/-- The step of the offset (1, 1). -/
theorem conv2_8 : sl.v615 c arg1 harg1 arg2 harg2 arg3 harg3 arg4 harg4 arg5 harg5 arg6 harg6 x0 x1 x2 x3 x4 x5 (ix2 r n)
    = sl.v599 c arg1 harg1 arg2 harg2 arg3 harg3 arg4 harg4 arg5 harg5 arg6 harg6 x0 x1 x2 x3 x4 x5 (ix2 r n) + part (wt2 x5 r) (sl.v473 c arg1 harg1 arg2 harg2 arg3 harg3 arg4 harg4 arg5 harg5 x0 x1 x2 x3 x4) n 2 2 :=
  step_left (s := 33) (r' := 16351) dot_S32x48_S48x16384_S32x16384_1_0_0_1_n_n rfl rfl 2 2 _ _ _ _ (sl.v297 (F := Ideal)) mask8
    (by decide) (by decide) (by decide) (by decide) (by decide) (by decide) (by decide) _ r n
    (fun k ez i hk => read_weight rfl rfl arg6 harg6 x5 2 2 _ rfl _ r k ez i hk) (by decide) (by decide) rfl rfl rfl

/-- The second convolution's sum, before its bias: the convolution of the first layer's output. -/
theorem conv2_sum : sl.v615 c arg1 harg1 arg2 harg2 arg3 harg3 arg4 harg4 arg5 harg5 arg6 harg6 x0 x1 x2 x3 x4 x5 (ix2 r n)
    = convAt (wt2 x5 r) (fun i k => sl.v473 c arg1 harg1 arg2 harg2 arg3 harg3 arg4 harg4 arg5 harg5 x0 x1 x2 x3 x4 (ix2 i k)) n := by
  rw [conv2_8, conv2_7, conv2_6, conv2_5, conv2_4, conv2_3, conv2_2, conv2_1, conv2_0]
  have h0 : sl.v474 (F := Ideal) (ix2 r n) = (0 : EReal) := by
    show Ideal.ofBits FTy.f32 0#32 = 0
    pointwise
  rw [h0]
  exact nine_taps (wt2 x5 r) (fun i k => sl.v473 c arg1 harg1 arg2 harg2 arg3 harg3 arg4 harg4 arg5 harg5 x0 x1 x2 x3 x4 (ix2 i k)) n _ fun _ _ => rfl

end Cert.Own
-- ==== Proof.Encoder.lean ====
module
public import proofs.«01_k».proof.Proof.Conv1
public import proofs.«01_k».proof.Proof.Conv2
public import proofs.«01_k».proof.Proof.Model
@[expose] public section
set_option maxRecDepth 16384

/-! What the body's encoder computes: at row `r` and column `n`, the plain functions of its operands. -/

noncomputable section
open Idealize.ShloMosaic

namespace Cert.Own
open Cert.KernelIdeal Cert.KernelIdeal.Gen Cert.KernelIdeal.Gen.kernelRun0_A

/-- A whole two-axis operand, read whole and put in its own shape. -/
theorem read_whole {sig : RefSig} {a b : ℕ} (arg : Memref sig .tc .vmem (Sh a b) .f32) (harg : arg.IsWhole)
    (x : Vec Ideal (Sh a b) .f32) (inb) (h : (Sh a b).ShapeCasts (Sh a b)) :
    shapeCast (Sh a b) (View.readAt (Elt Ideal) arg.view (Rect.unit (s := Sh a b) ![0, 0] ![a, b] inb).toLoadRect (harg.unread x)) h
      = x := by
  refine (shapeCast_self (s := Sh a b) _ h).trans ?_
  funext j
  refine read_rows arg harg x _ _ inb _ _ fun i => ?_
  match i with
  | ⟨0, _⟩ => exact (Nat.zero_add _).symm
  | ⟨1, _⟩ => exact (Nat.zero_add _).symm

/-- A plain product into zeros, at an index. -/
theorem dot_zero {M K N : ℕ} (a : FVec Ideal (Sh M K) .f32) (b : FVec Ideal (Sh K N) .f32) (p : Fin M) (q : Fin N) :
    matmul (DotDims.plain M K N) none a b (constant (F := Ideal) (Sh M N) .f32 0#32) (ix2 p q)
      = ∑ k, a (ix2 p k) * b (ix2 k q) := by
  refine (Ideal.matmul_plain_apply (φ₁ := .f32) (φ₂ := .f32) none a b _ p q).trans ?_
  have h0 : (constant (F := Ideal) (Sh M N) .f32 0#32) (ix2 p q) = (0 : EReal) := by pointwise
  rw [← ix2_eq_valueIdx, h0, zero_add]
  simp only [← ix2_eq_valueIdx]

variable (c : Dev nD) (arg1 : Memref sig .tc .vmem S8x16384 .f32) (harg1 : arg1.IsWhole)
  (arg2 : Memref sig .tc .vmem S144x24 .f32) (harg2 : arg2.IsWhole) (arg3 : Memref sig .tc .vmem S16x1 .f32) (harg3 : arg3.IsWhole)
  (arg4 : Memref sig .tc .vmem S16x1 .f32) (harg4 : arg4.IsWhole) (arg5 : Memref sig .tc .vmem S16x1 .f32) (harg5 : arg5.IsWhole)
  (arg6 : Memref sig .tc .vmem S288x48 .f32) (harg6 : arg6.IsWhole) (arg7 : Memref sig .tc .vmem S32x1 .f32) (harg7 : arg7.IsWhole)
  (arg8 : Memref sig .tc .vmem S32x1 .f32) (harg8 : arg8.IsWhole) (arg9 : Memref sig .tc .vmem S32x1 .f32) (harg9 : arg9.IsWhole)
  (arg10 : Memref sig .tc .vmem S8x32 .f32) (harg10 : arg10.IsWhole) (arg11 : Memref sig .tc .vmem S8x1 .f32) (harg11 : arg11.IsWhole)
  (x0 : Vec Ideal S8x16384 .f32) (x1 : Vec Ideal S144x24 .f32) (x2 x3 x4 : Vec Ideal S16x1 .f32) (x5 : Vec Ideal S288x48 .f32)
  (x6 x7 x8 : Vec Ideal S32x1 .f32) (x9 : Vec Ideal S8x32 .f32) (x10 : Vec Ideal S8x1 .f32)

/-- The first convolution with its bias. -/
theorem biased1 (r : Fin 16) (n : Fin 16384) : sl.v445 c arg1 harg1 arg2 harg2 arg3 harg3 x0 x1 x2 (ix2 r n)
    = convAt (wt1 x1 r) (fun i k => x0 (ix2 i k)) n + x2 (ix2 r 0) := by
  have e : sl.v299 c arg1 harg1 x0 = x0 := read_whole arg1 harg1 x0 _ _
  have e' := conv1_sum c arg1 harg1 arg2 harg2 x0 x1 r n
  rw [e] at e'
  rw [← e']
  show _ + broadcastTo (Sh 16 16384) (sl.v443 c arg3 harg3 x2) _ (ix2 r n) = _
  rw [show sl.v443 c arg3 harg3 x2 = x2 from read_whole arg3 harg3 x2 _ _]
  refine congrArg _ ?_
  pointwise

/-- The first layer's mean of row `r`. -/
theorem mean1 (r : Fin 16) : sl.v449 c arg1 harg1 arg2 harg2 arg3 harg3 x0 x1 x2 (ix2 r 0) = meanOf fun k => sl.v445 c arg1 harg1 arg2 harg2 arg3 harg3 x0 x1 x2 (ix2 r k) := by
  unfold meanOf
  unfold sl.v449 sl.v447 sl.v446 sl.v448 sl.cst_147
  pointwise

/-- The first layer, centred. -/
theorem centred1 (r : Fin 16) (n : Fin 16384) : sl.v451 c arg1 harg1 arg2 harg2 arg3 harg3 x0 x1 x2 (ix2 r n)
    = sl.v445 c arg1 harg1 arg2 harg2 arg3 harg3 x0 x1 x2 (ix2 r n) - meanOf fun k => sl.v445 c arg1 harg1 arg2 harg2 arg3 harg3 x0 x1 x2 (ix2 r k) := by
  rw [← mean1]
  unfold sl.v451 sl.v450
  pointwise

/-- The first layer's variance of row `r`. -/
theorem var1 (r : Fin 16) : sl.v456 c arg1 harg1 arg2 harg2 arg3 harg3 x0 x1 x2 (ix2 r 0) = varOf fun k => sl.v445 c arg1 harg1 arg2 harg2 arg3 harg3 x0 x1 x2 (ix2 r k) := by
  unfold varOf
  simp only [← centred1]
  unfold sl.v456 sl.v454 sl.v453 sl.v448 sl.cst_147 sl.v452
  pointwise

/-- The first layer's output. -/
theorem out1 (r : Fin 16) (n : Fin 16384) : sl.v473 c arg1 harg1 arg2 harg2 arg3 harg3 arg4 harg4 arg5 harg5 x0 x1 x2 x3 x4 (ix2 r n)
    = normAt (fun k => convAt (wt1 x1 r) (fun i k => x0 (ix2 i k)) k + x2 (ix2 r 0)) (x3 (ix2 r 0)) (x4 (ix2 r 0)) n := by
  have e : (fun k => convAt (wt1 x1 r) (fun i k => x0 (ix2 i k)) k + x2 (ix2 r 0))
      = fun k => sl.v445 c arg1 harg1 arg2 harg2 arg3 harg3 x0 x1 x2 (ix2 r k) := funext fun k => (biased1 c arg1 harg1 arg2 harg2 arg3 harg3 x0 x1 x2 r k).symm
  rw [e]
  unfold normAt
  rw [← centred1, ← var1]
  have e1 : sl.v465 c arg4 harg4 x3 = x3 := read_whole arg4 harg4 x3 _ _
  have e2 : sl.v469 c arg5 harg5 x4 = x4 := read_whole arg5 harg5 x4 _ _
  unfold sl.v473 sl.v471 sl.v470 sl.v467 sl.v466 sl.v463 sl.v462 sl.v461 sl.v460 sl.v459 sl.v300 sl.cst_150 sl.cst_98
  rw [e1, e2]
  pointwise

/-- The second convolution with its bias. -/
theorem biased2 (r : Fin 32) (n : Fin 16384) : sl.v619 c arg1 harg1 arg2 harg2 arg3 harg3 arg4 harg4 arg5 harg5 arg6 harg6 arg7 harg7 x0 x1 x2 x3 x4 x5 x6 (ix2 r n)
    = convAt (wt2 x5 r) (fun i k => sl.v473 c arg1 harg1 arg2 harg2 arg3 harg3 arg4 harg4 arg5 harg5 x0 x1 x2 x3 x4 (ix2 i k)) n + x6 (ix2 r 0) := by
  rw [← conv2_sum]
  show _ + broadcastTo (Sh 32 16384) (sl.v617 c arg7 harg7 x6) _ (ix2 r n) = _
  rw [show sl.v617 c arg7 harg7 x6 = x6 from read_whole arg7 harg7 x6 _ _]
  refine congrArg _ ?_
  pointwise

/-- The second layer's mean of row `r`. -/
theorem mean2 (r : Fin 32) : sl.v623 c arg1 harg1 arg2 harg2 arg3 harg3 arg4 harg4 arg5 harg5 arg6 harg6 arg7 harg7 x0 x1 x2 x3 x4 x5 x6 (ix2 r 0) = meanOf fun k => sl.v619 c arg1 harg1 arg2 harg2 arg3 harg3 arg4 harg4 arg5 harg5 arg6 harg6 arg7 harg7 x0 x1 x2 x3 x4 x5 x6 (ix2 r k) := by
  unfold meanOf
  unfold sl.v623 sl.v621 sl.v620 sl.v622 sl.cst_147
  pointwise

/-- The second layer, centred. -/
theorem centred2 (r : Fin 32) (n : Fin 16384) : sl.v625 c arg1 harg1 arg2 harg2 arg3 harg3 arg4 harg4 arg5 harg5 arg6 harg6 arg7 harg7 x0 x1 x2 x3 x4 x5 x6 (ix2 r n)
    = sl.v619 c arg1 harg1 arg2 harg2 arg3 harg3 arg4 harg4 arg5 harg5 arg6 harg6 arg7 harg7 x0 x1 x2 x3 x4 x5 x6 (ix2 r n) - meanOf fun k => sl.v619 c arg1 harg1 arg2 harg2 arg3 harg3 arg4 harg4 arg5 harg5 arg6 harg6 arg7 harg7 x0 x1 x2 x3 x4 x5 x6 (ix2 r k) := by
  rw [← mean2]
  unfold sl.v625 sl.v624
  pointwise

/-- The second layer's variance of row `r`. -/
theorem var2 (r : Fin 32) : sl.v630 c arg1 harg1 arg2 harg2 arg3 harg3 arg4 harg4 arg5 harg5 arg6 harg6 arg7 harg7 x0 x1 x2 x3 x4 x5 x6 (ix2 r 0) = varOf fun k => sl.v619 c arg1 harg1 arg2 harg2 arg3 harg3 arg4 harg4 arg5 harg5 arg6 harg6 arg7 harg7 x0 x1 x2 x3 x4 x5 x6 (ix2 r k) := by
  unfold varOf
  simp only [← centred2]
  unfold sl.v630 sl.v628 sl.v627 sl.v622 sl.cst_147 sl.v626
  pointwise

/-- The second layer's output. -/
theorem out2 (r : Fin 32) (n : Fin 16384) : sl.v647 c arg1 harg1 arg2 harg2 arg3 harg3 arg4 harg4 arg5 harg5 arg6 harg6 arg7 harg7 arg8 harg8 arg9 harg9 x0 x1 x2 x3 x4 x5 x6 x7 x8 (ix2 r n)
    = normAt (fun k => convAt (wt2 x5 r) (fun i k => sl.v473 c arg1 harg1 arg2 harg2 arg3 harg3 arg4 harg4 arg5 harg5 x0 x1 x2 x3 x4 (ix2 i k)) k + x6 (ix2 r 0)) (x7 (ix2 r 0)) (x8 (ix2 r 0)) n := by
  have e : (fun k => convAt (wt2 x5 r) (fun i k => sl.v473 c arg1 harg1 arg2 harg2 arg3 harg3 arg4 harg4 arg5 harg5 x0 x1 x2 x3 x4 (ix2 i k)) k + x6 (ix2 r 0))
      = fun k => sl.v619 c arg1 harg1 arg2 harg2 arg3 harg3 arg4 harg4 arg5 harg5 arg6 harg6 arg7 harg7 x0 x1 x2 x3 x4 x5 x6 (ix2 r k) := funext fun k => (biased2 c arg1 harg1 arg2 harg2 arg3 harg3 arg4 harg4 arg5 harg5 arg6 harg6 arg7 harg7 x0 x1 x2 x3 x4 x5 x6 r k).symm
  rw [e]
  unfold normAt
  rw [← centred2, ← var2]
  have e1 : sl.v639 c arg8 harg8 x7 = x7 := read_whole arg8 harg8 x7 _ _
  have e2 : sl.v643 c arg9 harg9 x8 = x8 := read_whole arg9 harg9 x8 _ _
  unfold sl.v647 sl.v645 sl.v644 sl.v641 sl.v640 sl.v637 sl.v636 sl.v635 sl.v634 sl.v633 sl.v474 sl.cst_150 sl.cst_98
  rw [e1, e2]
  pointwise

/-- The latent vectors. -/
theorem latent_word (r : Fin 8) (n : Fin 16384) : sl.v654 c arg1 harg1 arg2 harg2 arg3 harg3 arg4 harg4 arg5 harg5 arg6 harg6 arg7 harg7 arg8 harg8 arg9 harg9 arg10 harg10 arg11 harg11 x0 x1 x2 x3 x4 x5 x6 x7 x8 x9 x10 (ix2 r n)
    = ∑ i, x9 (ix2 r i) * sl.v647 c arg1 harg1 arg2 harg2 arg3 harg3 arg4 harg4 arg5 harg5 arg6 harg6 arg7 harg7 arg8 harg8 arg9 harg9 x0 x1 x2 x3 x4 x5 x6 x7 x8 (ix2 i n) + x10 (ix2 r 0) := by
  have e1 : sl.v649 c arg10 harg10 x9 = x9 := read_whole arg10 harg10 x9 _ _
  have e2 : sl.v652 c arg11 harg11 x10 = x10 := read_whole arg11 harg11 x10 _ _
  unfold sl.v654 sl.v653 sl.v650
  rw [e1, e2]
  show matmul (DotDims.plain 8 32 16384) none x9 (sl.v647 c arg1 harg1 arg2 harg2 arg3 harg3 arg4 harg4 arg5 harg5 arg6 harg6 arg7 harg7 arg8 harg8 arg9 harg9 x0 x1 x2 x3 x4 x5 x6 x7 x8) (constant (F := Ideal) (Sh 8 16384) .f32 0#32) (ix2 r n)
    + broadcastTo (Sh 8 16384) x10 _ (ix2 r n) = _
  rw [dot_zero]
  refine congrArg _ ?_
  pointwise

/-- The normalised latent vectors. -/
theorem unit_word (r : Fin 8) (n : Fin 16384) : sl.v662 c arg1 harg1 arg2 harg2 arg3 harg3 arg4 harg4 arg5 harg5 arg6 harg6 arg7 harg7 arg8 harg8 arg9 harg9 arg10 harg10 arg11 harg11 x0 x1 x2 x3 x4 x5 x6 x7 x8 x9 x10 (ix2 r n)
    = Ideal.div (sl.v654 c arg1 harg1 arg2 harg2 arg3 harg3 arg4 harg4 arg5 harg5 arg6 harg6 arg7 harg7 arg8 harg8 arg9 harg9 arg10 harg10 arg11 harg11 x0 x1 x2 x3 x4 x5 x6 x7 x8 x9 x10 (ix2 r n)) (max (Ideal.sqrt (∑ i, sl.v654 c arg1 harg1 arg2 harg2 arg3 harg3 arg4 harg4 arg5 harg5 arg6 harg6 arg7 harg7 arg8 harg8 arg9 harg9 arg10 harg10 arg11 harg11 x0 x1 x2 x3 x4 x5 x6 x7 x8 x9 x10 (ix2 i n) * sl.v654 c arg1 harg1 arg2 harg2 arg3 harg3 arg4 harg4 arg5 harg5 arg6 harg6 arg7 harg7 arg8 harg8 arg9 harg9 arg10 harg10 arg11 harg11 x0 x1 x2 x3 x4 x5 x6 x7 x8 x9 x10 (ix2 i n)))
        (Ideal.ofBits FTy.f32 730643660#32)) := by
  unfold sl.v662 sl.v661 sl.v660 sl.v659 sl.v658 sl.v657 sl.v656 sl.v655 sl.cst_224
  pointwise

end Cert.Own
-- ==== Proof.Points.lean ====
module
public import proofs.«01_k».proof.Proof.Encoder
@[expose] public section
set_option maxRecDepth 16384

/-! What the grid's points leave: the first stores the normalised latent vectors, every point looks up its columns of them. -/

noncomputable section
open Idealize.ShloMosaic Idealize.ShloMosaic.TcCoe Idealize.SL.Sem
open Idealize.ShloMosaic.Pipeline (Dat)

namespace Cert.KernelIdeal.Value
open Cert.KernelIdeal Cert.KernelIdeal.Gen Cert.KernelIdeal.Gen.kernelRun0_A Cert.Own

/-- The lookup of one block of columns `q` with the keys `K` and the labels `L`. -/
def look (q : Vec Ideal S8x1024 .f32) (K : Vec Ideal S4096x8 .f32) (L : Vec Ideal S4096x1 .f32) : FVec Ideal S1024 .f32 :=
  k0_pay1 (k0_pay56 q K) (k0_pay66 (k0_pay63 q K) (k0_pay64 q K) (k0_pay65 q K)) L

/-- The columns a point looks up. -/
def cols (X : Vec Ideal S8x16384 .f32) (i : grid0.Coords) : Vec Ideal S8x1024 .f32 :=
  View.ld X (Rect.unit (s := S8x16384) (k0_off1 i) S8x1024.size (k0_off1_inb i))

section
variable (c : Dev nD) (i : grid0.Coords)
  (arg1 : Memref sig .tc .vmem S8x16384 .f32) (harg1 : arg1.IsWhole)
  (arg2 : Memref sig .tc .vmem S144x24 .f32) (harg2 : arg2.IsWhole)
  (arg3 : Memref sig .tc .vmem S16x1 .f32) (harg3 : arg3.IsWhole)
  (arg4 : Memref sig .tc .vmem S16x1 .f32) (harg4 : arg4.IsWhole)
  (arg5 : Memref sig .tc .vmem S16x1 .f32) (harg5 : arg5.IsWhole)
  (arg6 : Memref sig .tc .vmem S288x48 .f32) (harg6 : arg6.IsWhole)
  (arg7 : Memref sig .tc .vmem S32x1 .f32) (harg7 : arg7.IsWhole)
  (arg8 : Memref sig .tc .vmem S32x1 .f32) (harg8 : arg8.IsWhole)
  (arg9 : Memref sig .tc .vmem S32x1 .f32) (harg9 : arg9.IsWhole)
  (arg10 : Memref sig .tc .vmem S8x32 .f32) (harg10 : arg10.IsWhole)
  (arg11 : Memref sig .tc .vmem S8x1 .f32) (harg11 : arg11.IsWhole)
  (arg12 : Memref sig .tc .vmem S4096x8 .f32) (harg12 : arg12.IsWhole)
  (arg13 : Memref sig .tc .vmem S4096x1 .f32) (harg13 : arg13.IsWhole)
  (arg14 : Memref sig .tc .vmem S1024 .f32) (harg14 : arg14.IsWhole)
  (arg15 : Memref sig .tc .vmem S8x16384 .f32) (harg15 : arg15.IsWhole)
  (hc0 : cond0_0 i)
  (x0 : Vec Ideal S8x16384 .f32) (x1 : Vec Ideal S144x24 .f32) (x2 : Vec Ideal S16x1 .f32) (x3 : Vec Ideal S16x1 .f32) (x4 : Vec Ideal S16x1 .f32) (x5 : Vec Ideal S288x48 .f32) (x6 : Vec Ideal S32x1 .f32) (x7 : Vec Ideal S32x1 .f32) (x8 : Vec Ideal S32x1 .f32) (x9 : Vec Ideal S8x32 .f32) (x10 : Vec Ideal S8x1 .f32) (x11 : Vec Ideal S4096x8 .f32) (x12 : Vec Ideal S4096x1 .f32)

/-- The first point's scratch: the normalised latent vectors. -/
theorem stored_first : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 = sl.v662 c arg1 harg1 arg2 harg2 arg3 harg3 arg4 harg4 arg5 harg5 arg6 harg6 arg7 harg7 arg8 harg8 arg9 harg9 arg10 harg10 arg11 harg11 x0 x1 x2 x3 x4 x5 x6 x7 x8 x9 x10 := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).2.1 = sl.HS0_1 c arg1 harg1 arg2 harg2 arg3 harg3 arg4 harg4 arg5 harg5 arg6 harg6 arg7 harg7 arg8 harg8 arg9 harg9 arg10 harg10 arg11 harg11 x0 x1 x2 x3 x4 x5 x6 x7 x8 x9 x10 := rfl
  unfold sout0_A_0
  rw [e]
  unfold sl.HS0_1
  rw [View.read_writes_junk_eq_canon]
  refine (View.canon_cons_unit_lit _ _ _ (by decide)).trans ?_
  exact shapeCast_self _ _

/-- What the first point reads back of its scratch. -/
theorem read_first : sl.v5 c i arg1 harg1 arg2 harg2 arg3 harg3 arg4 harg4 arg5 harg5 arg6 harg6 arg7 harg7 arg8 harg8 arg9 harg9 arg10 harg10 arg11 harg11 arg15 x0 x1 x2 x3 x4 x5 x6 x7 x8 x9 x10 = cols (sl.v662 c arg1 harg1 arg2 harg2 arg3 harg3 arg4 harg4 arg5 harg5 arg6 harg6 arg7 harg7 arg8 harg8 arg9 harg9 arg10 harg10 arg11 harg11 x0 x1 x2 x3 x4 x5 x6 x7 x8 x9 x10) i := by
  unfold sl.v5 sl.HS0_1 cols
  rw [View.readAt_eq_ld, View.read_writes_junk_eq_canon]
  refine congrArg (fun Z => View.ld Z _) ?_
  refine (View.canon_cons_unit_lit _ _ _ (by decide)).trans ?_
  exact shapeCast_self _ _

/-- The first point's answers. -/
theorem answered_first : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12
    = look (cols (sl.v662 c arg1 harg1 arg2 harg2 arg3 harg3 arg4 harg4 arg5 harg5 arg6 harg6 arg7 harg7 arg8 harg8 arg9 harg9 arg10 harg10 arg11 harg11 x0 x1 x2 x3 x4 x5 x6 x7 x8 x9 x10) i) x11 x12 := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).1
    = [⟨Rect.unit ![0] S1024.size inb_S1024_S1024_0, k0_pay1 (sl.r_1 c i arg1 harg1 arg2 harg2 arg3 harg3 arg4 harg4 arg5 harg5 arg6 harg6 arg7 harg7 arg8 harg8 arg9 harg9 arg10 harg10 arg11 harg11 arg12 harg12 arg15 x0 x1 x2 x3 x4 x5 x6 x7 x8 x9 x10 x11) (sl.r_5 c i arg1 harg1 arg2 harg2 arg3 harg3 arg4 harg4 arg5 harg5 arg6 harg6 arg7 harg7 arg8 harg8 arg9 harg9 arg10 harg10 arg11 harg11 arg12 harg12 arg15 x0 x1 x2 x3 x4 x5 x6 x7 x8 x9 x10 x11)
        (View.readAt (Elt Ideal) arg13.view (Rect.unit ![0, 0] S4096x1.size inb_S4096x1_S4096x1_0_0).toLoadRect (harg13.unread x12))⟩] := rfl
  unfold out0_A_13
  rw [e, View.read_writes_junk_eq_canon]
  refine (View.canon_cons_unit_lit _ _ _ (by decide)).trans ?_
  unfold sl.r_5 sl.r_4 sl.r_3 sl.r_2 sl.r_1 look
  rw [read_first]
  have e1 : View.readAt (Elt Ideal) arg12.view (Rect.unit ![0, 0] S4096x8.size inb_S4096x8_S4096x8_0_0).toLoadRect (harg12.unread x11) = x11 := by
    rw [View.readAt_eq_ld, harg12.read_unread]
    exact View.ld_unit_lit _ _ (by decide)
  have e2 : View.readAt (Elt Ideal) arg13.view (Rect.unit ![0, 0] S4096x1.size inb_S4096x1_S4096x1_0_0).toLoadRect (harg13.unread x12) = x12 := by
    rw [View.readAt_eq_ld, harg13.read_unread]
    exact View.ld_unit_lit _ _ (by decide)
  rw [e1, e2]
end

variable (m : (ℓ : Loc nD τ sig) → Buf (Elt Ideal) ℓ)

/-- A later point keeps the scratch. -/
theorem scratch_later (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  rfl

/-- A later point's answers, from the scratch it finds. -/
theorem out_later (c : Dev nD) (t : Fin cfg0.N) (h0 : ¬t.val % 16 = 0) :
    (outsAt0 m c t.val t.isLt).1
      = look (cols (outsAt0 m c (t.val - 1) (Nat.lt_of_le_of_lt (Nat.sub_le _ _) t.isLt)).2 (grid0.coords t))
          (iblk m c 11 t) (iblk m c 12 t) := by
  rw [outsAt0_B m c t h0]
  frame_out
  have e := (Memref.isWhole_whole cc0_scratch0).read_unread (Val := Elt Ideal)
    (outsAt0 m c (t.val - 1) (Nat.lt_of_le_of_lt (Nat.sub_le _ _) t.isLt)).2
  rw [show View.read (Elt Ideal) (View.whole cc0_scratch0) _ = _ from e]
  rfl

/-- The scratch after the first point. -/
def stored (c : Dev nD) : Vec Ideal S8x16384 .f32 := (outsAt0 m c 0 (by decide)).2

/-- The scratch after the first point: the normalised latent vectors of the operands' blocks. -/
theorem stored_eq (c : Dev nD) (t : Fin cfg0.N) (h : t.val % 16 = 0) :
    stored m c = sl.v662 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  have h0 : t.val = 0 := by
    have := lt_of_lt_of_eq t.isLt N_0
    omega
  have e : ∀ (k : ℕ) (hk : k < cfg0.N), k = 0 → stored m c = (outsAt0 m c k hk).2 := by
    intro k hk h
    subst h
    rfl
  refine (e t.val t.isLt h0).trans ?_
  have e2 := stored_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  refine Eq.trans ?_ e2
  rw [outsAt0_A m c t h]

/-- Every point leaves the scratch as the first point filled it. -/
theorem scratch_all (c : Dev nD) : ∀ (n : ℕ) (hn : n < cfg0.N), (outsAt0 m c n hn).2 = stored m c := by
  intro n
  induction n with
  | zero => intro hn; rfl
  | succ n ih =>
    intro hn
    have hN := lt_of_lt_of_eq hn N_0
    exact (scratch_later m c ⟨n + 1, hn⟩ (by show ¬(n + 1) % 16 = 0; omega)).trans (ih _)

/-- Every point's answers: the lookup of its columns of the stored latent vectors. -/
theorem out_all (c : Dev nD) (t : Fin cfg0.N) :
    (outsAt0 m c t.val t.isLt).1 = look (cols (stored m c) (grid0.coords t)) (iblk m c 11 t) (iblk m c 12 t) := by
  by_cases h0 : t.val % 16 = 0
  · have e2 := answered_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    refine Eq.trans ?_ (e2.trans ?_)
    · rw [outsAt0_A m c t h0]
    exact congrArg (fun X => look (cols X (grid0.coords t)) (iblk m c 11 t) (iblk m c 12 t)) (stored_eq m c t h0).symm
  · rw [out_later m c t h0, scratch_all]

/-- The kernel's result at an index, from its point's answers. -/
theorem G13_apply (c : Dev nD) (n : Fin 16384) :
    G13 m c (ix1 n) = look (cols (stored m c) (grid0.coords ⟨n.val / 1024, lt_of_lt_of_eq (by omega) N_0.symm⟩))
      (iblk m c 11 ⟨n.val / 1024, lt_of_lt_of_eq (by omega) N_0.symm⟩) (iblk m c 12 ⟨n.val / 1024, lt_of_lt_of_eq (by omega) N_0.symm⟩)
      (ix1 ⟨n.val % 1024, Nat.mod_lt _ (by decide)⟩) := by
  have hN : n.val / 1024 < cfg0.N := lt_of_lt_of_eq (by omega) N_0.symm
  have hp : pt13Of (ix1 n) = n.val / 1024 := by
    show 1 * (n.val / 1024 - 0) = _
    omega
  rw [← out_all m c ⟨n.val / 1024, hN⟩]
  unfold G13
  rw [dif_pos (lt_of_eq_of_lt hp hN), outsAt0_sweep]
  have hl : loc13Of (ix1 n) = ix1 ⟨n.val % 1024, Nat.mod_lt _ (by decide)⟩ := by
    funext a
    match a with
    | ⟨0, _⟩ => rfl
  rw [hl]
  exact congrArg (fun p => p.1 (ix1 ⟨n.val % 1024, Nat.mod_lt _ (by decide)⟩)) (fold0_congr m c _ _ _ _ hp)

end Cert.KernelIdeal.Value
-- ==== Proof.Selection.lean ====
module
public import Mathlib.Data.EReal.Basic
public import Idealize.ShloMosaic.Lib.Pointwise
@[expose] public section

/-! Taking the ten smallest of 4096 values by ten rounds over 2048 pairs `(i, i + 2048)`, when the eleven smallest
are strictly increasing. -/

namespace Cert.Own

/-- `e 0, …, e 10` are the places of the eleven smallest values of `d`, strictly increasing. -/
structure Smallest (d : Fin 4096 → EReal) (e : ℕ → Fin 4096) : Prop where
  lt : ∀ j, j < 10 → d (e j) < d (e (j + 1))
  least : ∀ i, (∃ j, j ≤ 10 ∧ i = e j) ∨ d (e 10) ≤ d i

variable {d : Fin 4096 → EReal} {e : ℕ → Fin 4096}

/-- Earlier places hold smaller values. -/
theorem Smallest.mono (h : Smallest d e) {a b : ℕ} (hab : a < b) (hb : b ≤ 10) : d (e a) < d (e b) := by
  induction b with
  | zero => omega
  | succ b ih =>
    rcases Nat.lt_succ_iff_lt_or_eq.mp hab with h1 | h1
    · exact (ih h1 (by omega)).trans (h.lt b (by omega))
    · subst h1; exact h.lt a (by omega)

/-- Different places are different keys. -/
theorem Smallest.ne (h : Smallest d e) {a b : ℕ} (hab : a < b) (hb : b ≤ 10) : e a ≠ e b := fun he => by
  have := h.mono hab hb
  rw [he] at this
  exact lt_irrefl _ this

/-- Each of the first ten values is below infinity. -/
theorem Smallest.lt_top (h : Smallest d e) {a : ℕ} (ha : a < 10) : d (e a) < ⊤ := (h.lt a ha).trans_le le_top

open Classical in
/-- The values with the first `j` places taken out. -/
noncomputable def rest (d : Fin 4096 → EReal) (e : ℕ → Fin 4096) (j : ℕ) (i : Fin 4096) : EReal :=
  if ∃ l, l < j ∧ e l = i then ⊤ else d i

/-- The place `e j` is still in after `j` rounds. -/
theorem Smallest.rest_self (h : Smallest d e) {j : ℕ} (hj : j < 10) : rest d e j (e j) = d (e j) := by
  unfold rest
  rw [if_neg]
  rintro ⟨l, hl, he⟩
  exact h.ne hl (by omega) he

/-- Every other value left is above `d (e j)`. -/
theorem Smallest.rest_gt (h : Smallest d e) {j : ℕ} (hj : j < 10) {i : Fin 4096} (hi : i ≠ e j) :
    d (e j) < rest d e j i := by
  unfold rest
  split_ifs with hl
  · exact h.lt_top hj
  · rcases h.least i with ⟨l, hl10, rfl⟩ | h10
    · have h1 : ¬ l < j := fun h2 => hl ⟨l, h2, rfl⟩
      have h2 : l ≠ j := fun h3 => hi (by rw [h3])
      exact h.mono (by omega) hl10
    · exact (h.mono (by omega) le_rfl).trans_le h10

/-- The next round takes out `e j` only. -/
theorem rest_succ_ne (d : Fin 4096 → EReal) (e : ℕ → Fin 4096) {j : ℕ} {i : Fin 4096} (hi : i ≠ e j) :
    rest d e (j + 1) i = rest d e j i := by
  unfold rest
  have : (∃ l, l < j + 1 ∧ e l = i) ↔ ∃ l, l < j ∧ e l = i := by
    constructor
    · rintro ⟨l, hl, he⟩
      refine ⟨l, ?_, he⟩
      rcases Nat.lt_succ_iff_lt_or_eq.mp hl with h1 | h1
      · exact h1
      · subst h1; exact absurd he.symm hi
    · rintro ⟨l, hl, he⟩
      exact ⟨l, by omega, he⟩
  simp only [this]

/-- After the next round `e j` is out. -/
theorem rest_succ_self (d : Fin 4096 → EReal) (e : ℕ → Fin 4096) (j : ℕ) : rest d e (j + 1) (e j) = ⊤ := by
  unfold rest
  exact if_pos ⟨j, by omega, rfl⟩

/-- A pair's first place. -/
def lo (i : Fin 2048) : Fin 4096 := ⟨i.val, by omega⟩
/-- A pair's second place. -/
def hi (i : Fin 2048) : Fin 4096 := ⟨2048 + i.val, by omega⟩

theorem lo_ne_hi (i : Fin 2048) : lo i ≠ hi i := fun h => by have := congrArg Fin.val h; simp only [lo, hi] at this; omega

/-- Every place is a pair's first or second. -/
theorem lo_or_hi (k : Fin 4096) : ∃ i, k = lo i ∨ k = hi i := by
  by_cases h : k.val < 2048
  · exact ⟨⟨k.val, h⟩, Or.inl rfl⟩
  · exact ⟨⟨k.val - 2048, by omega⟩, Or.inr (Fin.ext (by simp only [hi]; omega))⟩

/-- The smaller of each pair, `j` places taken out. -/
noncomputable def small (d : Fin 4096 → EReal) (e : ℕ → Fin 4096) (j : ℕ) (i : Fin 2048) : EReal :=
  min (rest d e j (lo i)) (rest d e j (hi i))
/-- The larger of each pair, `j` places taken out. -/
noncomputable def large (d : Fin 4096 → EReal) (e : ℕ → Fin 4096) (j : ℕ) (i : Fin 2048) : EReal :=
  max (rest d e j (lo i)) (rest d e j (hi i))

/-- With nothing taken out, a pair's smaller value. -/
theorem small_zero (i : Fin 2048) : small d e 0 i = min (d (lo i)) (d (hi i)) := by simp [small, rest]
/-- With nothing taken out, a pair's larger value. -/
theorem large_zero (i : Fin 2048) : large d e 0 i = max (d (lo i)) (d (hi i)) := by simp [large, rest]

/-- Every pair's smaller value is at least `d (e j)`. -/
theorem Smallest.le_rest (h : Smallest d e) {j : ℕ} (hj : j < 10) (k : Fin 4096) : d (e j) ≤ rest d e j k := by
  by_cases hk : k = e j
  · subst hk; exact (h.rest_self hj).ge
  · exact (h.rest_gt hj hk).le

/-- The least of the pairs' smaller values is `d (e j)`. -/
theorem Smallest.fold_small (h : Smallest d e) {j : ℕ} (hj : j < 10) :
    Finset.univ.fold min ⊤ (small d e j) = d (e j) := by
  apply le_antisymm
  · obtain ⟨i, hi'⟩ := lo_or_hi (e j)
    refine (Finset.fold_min_le (d (e j))).mpr (Or.inr ⟨i, Finset.mem_univ _, ?_⟩)
    unfold small
    rcases hi' with h1 | h1
    · rw [← h1, h.rest_self hj]; exact min_le_left _ _
    · rw [← h1, h.rest_self hj]; exact min_le_right _ _
  · exact (Finset.le_fold_min (d (e j))).mpr ⟨le_top, fun i _ => le_min (h.le_rest hj _) (h.le_rest hj _)⟩

open Classical in
/-- A round on the smaller values: a pair that holds the least gives its larger value. -/
theorem Smallest.small_succ (h : Smallest d e) {j : ℕ} (hj : j < 10) (i : Fin 2048) :
    small d e (j + 1) i = if small d e j i ≤ d (e j) then large d e j i else small d e j i := by
  unfold small large
  by_cases h1 : lo i = e j
  · have h2 : hi i ≠ e j := fun h3 => lo_ne_hi i (h1.trans h3.symm)
    rw [rest_succ_ne d e h2, h1, rest_succ_self, h.rest_self hj,
      if_pos (min_le_left _ _), min_eq_right le_top, max_eq_right (h.rest_gt hj h2).le]
  · by_cases h2 : hi i = e j
    · rw [rest_succ_ne d e h1, h2, rest_succ_self, h.rest_self hj,
        if_pos (min_le_right _ _), min_eq_left le_top, max_eq_left (h.rest_gt hj h1).le]
    · rw [rest_succ_ne d e h1, rest_succ_ne d e h2, if_neg]
      exact not_le.mpr (lt_min (h.rest_gt hj h1) (h.rest_gt hj h2))

open Classical in
/-- A round on the larger values: a pair that holds the least has infinity left. -/
theorem Smallest.large_succ (h : Smallest d e) {j : ℕ} (hj : j < 10) (i : Fin 2048) :
    large d e (j + 1) i = if small d e j i ≤ d (e j) then ⊤ else large d e j i := by
  unfold small large
  by_cases h1 : lo i = e j
  · rw [h1, rest_succ_self, h.rest_self hj, if_pos (min_le_left _ _), max_eq_left le_top]
  · by_cases h2 : hi i = e j
    · rw [h2, rest_succ_self, h.rest_self hj, if_pos (min_le_right _ _), max_eq_right le_top]
    · rw [rest_succ_ne d e h1, rest_succ_ne d e h2, if_neg]
      exact not_le.mpr (lt_min (h.rest_gt hj h1) (h.rest_gt hj h2))

/-- The values up to the tenth smallest are those at the first ten places. -/
theorem Smallest.le_tenth (h : Smallest d e) (i : Fin 4096) : d i ≤ d (e 9) ↔ ∃ j, j < 10 ∧ e j = i := by
  constructor
  · intro hi
    rcases h.least i with ⟨j, hj, rfl⟩ | h10
    · refine ⟨j, ?_, rfl⟩
      by_contra hj'
      have : j = 10 := by omega
      subst this
      exact absurd (h.lt 9 (by omega)) (not_lt.mpr hi)
    · exact absurd ((h.lt 9 (by omega)).trans_le h10) (not_lt.mpr hi)
  · rintro ⟨j, hj, rfl⟩
    rcases Nat.lt_succ_iff_lt_or_eq.mp hj with h1 | h1
    · exact (h.mono h1 (by omega)).le
    · subst h1; exact le_rfl

open Classical in
/-- A sum over the values up to the tenth smallest is the sum over the first ten places. -/
theorem Smallest.sum_tenth (h : Smallest d e) (g : Fin 4096 → EReal) :
    ∑ i, (if d i ≤ d (e 9) then g i else 0) = ∑ j : Fin 10, g (e j.val) := by
  rw [← Finset.sum_filter]
  have hinj : Set.InjOn (fun j : Fin 10 => e j.val) (Finset.univ : Finset (Fin 10)) := by
    intro a _ b _ hab
    rcases lt_trichotomy a.val b.val with h1 | h1 | h1
    · exact absurd hab (h.ne h1 (by omega))
    · exact Fin.ext h1
    · exact absurd hab.symm (h.ne h1 (by omega))
  rw [← Finset.sum_image hinj (f := g)]
  refine Finset.sum_congr (Finset.ext fun i => ?_) fun _ _ => rfl
  simp only [Finset.mem_filter, Finset.mem_univ, true_and, Finset.mem_image, h.le_tenth i]
  constructor
  · rintro ⟨j, hj, he⟩; exact ⟨⟨j, hj⟩, he⟩
  · rintro ⟨j, he⟩; exact ⟨j.val, j.isLt, he⟩

end Cert.Own
-- ==== Proof.Knn.lean ====
module
public import proofs.«01_k».proof.Proof.Words
public import proofs.«01_k».proof.Proof.Points
public import proofs.«01_k».proof.Proof.Selection
@[expose] public section
set_option maxRecDepth 16384

/-! The lookup of one block of columns: at a column, the ten nearest keys' answer. -/

noncomputable section
open Idealize.ShloMosaic

namespace Cert.KernelIdeal.Value
open Cert.KernelIdeal Cert.KernelIdeal.Gen Cert.Own

/-- The constant standing for a value above all. -/
theorem big_top : Named.named (F := Ideal) Cert.KernelIdeal.κ "big" (φ := .f32) 0x7F61B1E6#32 = (⊤ : EReal) :=
  IdealRules.named_const.ideal_named_scalar _ _ _ _ rfl

/-- The squared distances of a block's columns to the keys. -/
theorem distances (q : Vec Ideal S8x1024 .f32) (K : Vec Ideal S4096x8 .f32) (i : Fin 4096) (n : Fin 1024) :
    k0_pay56 q K (ix2 i n)
      = (∑ c, q (ix2 c n) * q (ix2 c n) - Ideal.ofBits FTy.f32 1073741824#32 * ∑ c, K (ix2 i c) * q (ix2 c n))
        + ∑ c, K (ix2 i c) * K (ix2 i c) := by
  rw [← dot_zero K q i n]
  unfold k0_pay56
  pointwise

/-- The columns' least values. -/
def least (p : FVec Ideal S2048x1024 .f32) : FVec Ideal S1x1024 .f32 :=
  shapeCast S1x1024 (multiReduction .minimumf [0] S1024 p 0x7F800000#32 reduces_S2048x1024_S1024 (.inl rfl) rfl) shapeCasts_S1024_S1x1024

theorem least_apply (p : FVec Ideal S2048x1024 .f32) (n : Fin 1024) :
    least p (ix2 0 n) = Finset.univ.fold min ⊤ fun i : Fin 2048 => p (ix2 i n) := by
  unfold least
  rw [← infinity]
  pointwise

/-- Where a pair's smaller value is its column's least. -/
def taken (p : FVec Ideal S2048x1024 .f32) : IVec S2048x1024 1 :=
  cmpf .ole p (broadcastTo S2048x1024 (least p) broadcasts_S1x1024_S2048x1024)

/-- One round: the pairs holding the least value put their larger value forward, -/
def nextP (p s : FVec Ideal S2048x1024 .f32) : FVec Ideal S2048x1024 .f32 := select (taken p) s p

/-- and hold nothing behind it. -/
def nextS (p s : FVec Ideal S2048x1024 .f32) : FVec Ideal S2048x1024 .f32 :=
  select (taken p) (broadcast S2048x1024 (Named.named Cert.KernelIdeal.κ "big" 0x7F61B1E6#32)) s

/-- The pairs of a column after `j` places are taken out. -/
structure Holds (d : Fin 4096 → EReal) (e : ℕ → Fin 4096) (n : Fin 1024) (j : ℕ) (p s : FVec Ideal S2048x1024 .f32) : Prop where
  fst : ∀ i, p (ix2 i n) = small d e j i
  snd : ∀ i, s (ix2 i n) = large d e j i

variable {d : Fin 4096 → EReal} {e : ℕ → Fin 4096}

theorem Holds.least (h : Smallest d e) {n : Fin 1024} {j : ℕ} (hj : j < 10)
    {p s : FVec Ideal S2048x1024 .f32} (hx : Holds d e n j p s) : least p (ix2 0 n) = d (e j) := by
  rw [least_apply, ← h.fold_small hj]
  exact congrArg (fun f => Finset.fold min ⊤ f Finset.univ) (funext hx.fst)

theorem taken_apply (p : FVec Ideal S2048x1024 .f32) (i : Fin 2048) (n : Fin 1024) :
    taken p (ix2 i n) = BitVec.ofBool (decide (p (ix2 i n) ≤ Value.least p (ix2 0 n))) := by
  unfold taken
  generalize Value.least p = l
  pointwise

/-- A round takes one more place out. -/
theorem Holds.next (h : Smallest d e) {n : Fin 1024} {j : ℕ} (hj : j < 10)
    {p s : FVec Ideal S2048x1024 .f32} (hx : Holds d e n j p s) : Holds d e n (j + 1) (nextP p s) (nextS p s) := by
  have ht : ∀ i, taken p (ix2 i n) = BitVec.ofBool (decide (small d e j i ≤ d (e j))) := fun i => by
    rw [taken_apply, hx.least h hj, hx.fst]
  constructor
  · intro i
    rw [h.small_succ hj]
    show (if taken p (ix2 i n) = 1#1 then s (ix2 i n) else p (ix2 i n)) = _
    rw [ht, hx.fst, hx.snd]
    by_cases hc : small d e j i ≤ d (e j) <;> simp [hc]
  · intro i
    rw [h.large_succ hj]
    show (if taken p (ix2 i n) = 1#1 then Named.named (F := Ideal) Cert.KernelIdeal.κ "big" (φ := .f32) 0x7F61B1E6#32 else s (ix2 i n)) = _
    rw [ht, hx.snd, big_top]
    by_cases hc : small d e j i ≤ d (e j) <;> simp [hc]

/-- The pairs as the lookup starts. -/
theorem start_holds (q : Vec Ideal S8x1024 .f32) (K : Vec Ideal S4096x8 .f32) (n : Fin 1024) (e : ℕ → Fin 4096) :
    Holds (fun i => k0_pay56 q K (ix2 i n)) e n 0 (k0_pay57 q K) (k0_pay58 q K) := by
  constructor
  · intro i
    rw [Cert.Own.small_zero]
    unfold k0_pay57 lo hi
    generalize k0_pay56 q K = D
    pointwise
  · intro i
    rw [Cert.Own.large_zero]
    unfold k0_pay58 lo hi
    generalize k0_pay56 q K = D
    pointwise

theorem first_fst (q : Vec Ideal S8x1024 .f32) (K : Vec Ideal S4096x8 .f32) : k0_pay60 q K = nextP (k0_pay57 q K) (k0_pay58 q K) := rfl
theorem first_snd (q : Vec Ideal S8x1024 .f32) (K : Vec Ideal S4096x8 .f32) : k0_pay61 q K = nextS (k0_pay57 q K) (k0_pay58 q K) := rfl
theorem second_fst (q : Vec Ideal S8x1024 .f32) (K : Vec Ideal S4096x8 .f32) : k0_pay63 q K = nextP (k0_pay60 q K) (k0_pay61 q K) := rfl
theorem second_snd (q : Vec Ideal S8x1024 .f32) (K : Vec Ideal S4096x8 .f32) : k0_pay64 q K = nextS (k0_pay60 q K) (k0_pay61 q K) := rfl
theorem second_least (q : Vec Ideal S8x1024 .f32) (K : Vec Ideal S4096x8 .f32) :
    k0_pay65 q K = broadcastTo S2048x1024 (Value.least (k0_pay63 q K)) broadcasts_S1x1024_S2048x1024 := rfl

/-- After two rounds. -/
theorem second_holds (q : Vec Ideal S8x1024 .f32) (K : Vec Ideal S4096x8 .f32) (n : Fin 1024)
    (h : Smallest (fun i => k0_pay56 q K (ix2 i n)) e) :
    Holds (fun i => k0_pay56 q K (ix2 i n)) e n 2 (k0_pay63 q K) (k0_pay64 q K) := by
  have h1 := (start_holds q K n e).next h (by omega)
  rw [← first_fst, ← first_snd] at h1
  have h2 := h1.next h (by omega)
  rwa [← second_fst, ← second_snd] at h2

/-- The threshold after `k` more rounds. -/
def ending : ℕ → FVec Ideal S2048x1024 .f32 → FVec Ideal S2048x1024 .f32 → FVec Ideal S4096x1024 .f32
  | 0, p, _ => broadcastTo S4096x1024 (Value.least p) broadcasts_S1x1024_S4096x1024
  | k + 1, p, s => ending k (nextP p s) (nextS p s)

theorem Holds.ending (h : Smallest d e) {n : Fin 1024} (k : ℕ) {j : ℕ} (hj : j + k < 10)
    {p s : FVec Ideal S2048x1024 .f32} (hx : Holds d e n j p s) (i : Fin 4096) : Value.ending k p s (ix2 i n) = d (e (j + k)) := by
  induction k generalizing j p s with
  | zero =>
    show Value.ending 0 p s (ix2 i n) = d (e j)
    rw [← hx.least (j := j) h hj]
    unfold Value.ending
    generalize Value.least p = l
    pointwise
  | succ k ih =>
    rw [show j + (k + 1) = j + 1 + k by omega]
    exact ih (by omega) (hx.next h (by omega))

/-- The words after the second round are seven rounds more. -/
theorem seven (p s : FVec Ideal S2048x1024 .f32) :
    k0_pay66 p s (broadcastTo S2048x1024 (Value.least p) broadcasts_S1x1024_S2048x1024) = Value.ending 7 p s := by
  unfold k0_pay66
  iterate 8 unfold Value.ending
  rfl

/-- The answer from the distances and a threshold. -/
theorem answer_words (D T : FVec Ideal S4096x1024 .f32) (L : Vec Ideal S4096x1 .f32) (n : Fin 1024) :
    k0_pay1 D T L (ix1 n)
      = Ideal.div (∑ i, (if D (ix2 i n) ≤ T (ix2 i n) then soft (D (ix2 i n)) else 0) * L (ix2 i 0))
          (∑ i, (if D (ix2 i n) ≤ T (ix2 i n) then soft (D (ix2 i n)) else 0) + Ideal.ofBits FTy.f32 841731191#32) := by
  unfold k0_pay1 soft
  pointwise

/-- The lookup at a column whose ten nearest keys are `e 0, …, e 9`. -/
theorem look_apply (q : Vec Ideal S8x1024 .f32) (K : Vec Ideal S4096x8 .f32) (L : Vec Ideal S4096x1 .f32) (n : Fin 1024)
    (h : Smallest (fun i => k0_pay56 q K (ix2 i n)) e) :
    look q K L (ix1 n) = answer (fun i => k0_pay56 q K (ix2 i n)) (fun i => L (ix2 i 0)) e := by
  have hT : ∀ i, k0_pay66 (k0_pay63 q K) (k0_pay64 q K) (k0_pay65 q K) (ix2 i n) = k0_pay56 q K (ix2 (e 9) n) := fun i => by
    rw [second_least, seven]
    exact (second_holds q K n h).ending h 7 (by omega) i
  unfold look answer
  rw [answer_words]
  simp only [hT, ite_mul, zero_mul]
  rw [h.sum_tenth fun i => soft (k0_pay56 q K (ix2 i n)) * L (ix2 i 0), h.sum_tenth fun i => soft (k0_pay56 q K (ix2 i n))]

end Cert.KernelIdeal.Value
-- ==== Proof.Latent.lean ====
module
public import proofs.«01_k».proof.Proof.Encoder
@[expose] public section
set_option maxRecDepth 16384

/-! What the body's encoder computes, of operands that hold a given encoder's parameters. -/

noncomputable section
open Idealize.ShloMosaic

namespace Cert.Own
open Cert.KernelIdeal Cert.KernelIdeal.Gen Cert.KernelIdeal.Gen.kernelRun0_A

variable (c : Dev nD) (arg1 : Memref sig .tc .vmem S8x16384 .f32) (harg1 : arg1.IsWhole)
  (arg2 : Memref sig .tc .vmem S144x24 .f32) (harg2 : arg2.IsWhole) (arg3 : Memref sig .tc .vmem S16x1 .f32) (harg3 : arg3.IsWhole)
  (arg4 : Memref sig .tc .vmem S16x1 .f32) (harg4 : arg4.IsWhole) (arg5 : Memref sig .tc .vmem S16x1 .f32) (harg5 : arg5.IsWhole)
  (arg6 : Memref sig .tc .vmem S288x48 .f32) (harg6 : arg6.IsWhole) (arg7 : Memref sig .tc .vmem S32x1 .f32) (harg7 : arg7.IsWhole)
  (arg8 : Memref sig .tc .vmem S32x1 .f32) (harg8 : arg8.IsWhole) (arg9 : Memref sig .tc .vmem S32x1 .f32) (harg9 : arg9.IsWhole)
  (arg10 : Memref sig .tc .vmem S8x32 .f32) (harg10 : arg10.IsWhole) (arg11 : Memref sig .tc .vmem S8x1 .f32) (harg11 : arg11.IsWhole)
  (x0 : Vec Ideal S8x16384 .f32) (x1 : Vec Ideal S144x24 .f32) (x2 x3 x4 : Vec Ideal S16x1 .f32) (x5 : Vec Ideal S288x48 .f32)
  (x6 x7 x8 : Vec Ideal S32x1 .f32) (x9 : Vec Ideal S8x32 .f32) (x10 : Vec Ideal S8x1 .f32) (N : Net)

/-- The encoder's normalised latent vectors, from operands that hold its parameters: the first two rows of `x0` its channels,
the first weights zero on the other rows. -/
theorem unit_of_operands
    (h0 : ∀ (i : Fin 2) (n : Fin 16384), x0 (ix2 (Fin.castLE (by omega) i) n) = N.x i n)
    (hz : ∀ (r : Fin 16) (i : Fin 8), 2 ≤ i.val → ∀ ez ey ex, wt1 x1 r i ez ey ex = 0)
    (h1 : ∀ (r : Fin 16) (i : Fin 2) ez ey ex, wt1 x1 r (Fin.castLE (by omega) i) ez ey ex = N.w1 r i ez ey ex)
    (h2 : ∀ r, x2 (ix2 r 0) = N.b1 r) (h3 : ∀ r, x3 (ix2 r 0) = N.g1 r) (h4 : ∀ r, x4 (ix2 r 0) = N.be1 r)
    (h5 : ∀ r i ez ey ex, wt2 x5 r i ez ey ex = N.w2 r i ez ey ex)
    (h6 : ∀ r, x6 (ix2 r 0) = N.b2 r) (h7 : ∀ r, x7 (ix2 r 0) = N.g2 r) (h8 : ∀ r, x8 (ix2 r 0) = N.be2 r)
    (h9 : ∀ r i, x9 (ix2 r i) = N.w3 r i) (h10 : ∀ r, x10 (ix2 r 0) = N.b3 r) (r : Fin 8) (n : Fin 16384) :
    sl.v662 c arg1 harg1 arg2 harg2 arg3 harg3 arg4 harg4 arg5 harg5 arg6 harg6 arg7 harg7 arg8 harg8 arg9 harg9 arg10 harg10 arg11 harg11 x0 x1 x2 x3 x4 x5 x6 x7 x8 x9 x10 (ix2 r n) = N.unit r n := by
  have hw1 : ∀ r, (fun i : Fin 2 => wt1 x1 r (Fin.castLE (by omega) i)) = N.w1 r := fun r =>
    funext fun i => funext fun ez => funext fun ey => funext fun ex => h1 r i ez ey ex
  have hx : (fun i : Fin 2 => fun k => x0 (ix2 (Fin.castLE (by omega) i) k)) = N.x := funext fun i => funext fun k => h0 i k
  have l1 : ∀ r k, sl.v473 c arg1 harg1 arg2 harg2 arg3 harg3 arg4 harg4 arg5 harg5 x0 x1 x2 x3 x4 (ix2 r k) = N.layer1 r k := fun r k => by
    rw [out1]
    unfold Net.layer1
    rw [← hw1 r, ← hx, ← h2, ← h3, ← h4]
    refine congrArg (fun f => normAt f _ _ _) (funext fun k => ?_)
    rw [convAt_few (c := 2) (by omega) (wt1 x1 r) _ k (hz r)]
  have hw2 : ∀ r, wt2 x5 r = N.w2 r := fun r =>
    funext fun i => funext fun ez => funext fun ey => funext fun ex => h5 r i ez ey ex
  have l2 : ∀ r k, sl.v647 c arg1 harg1 arg2 harg2 arg3 harg3 arg4 harg4 arg5 harg5 arg6 harg6 arg7 harg7 arg8 harg8 arg9 harg9 x0 x1 x2 x3 x4 x5 x6 x7 x8 (ix2 r k) = N.layer2 r k := fun r k => by
    rw [out2]
    unfold Net.layer2
    simp only [l1]
    rw [hw2, h6, h7, h8]
  have l3 : ∀ r k, sl.v654 c arg1 harg1 arg2 harg2 arg3 harg3 arg4 harg4 arg5 harg5 arg6 harg6 arg7 harg7 arg8 harg8 arg9 harg9 arg10 harg10 arg11 harg11 x0 x1 x2 x3 x4 x5 x6 x7 x8 x9 x10 (ix2 r k) = N.latent r k := fun r k => by
    rw [latent_word, h10]
    unfold Net.latent
    simp only [l2, h9]
  rw [unit_word]
  unfold Net.unit
  simp only [l3]

end Cert.Own
-- ==== Proof.Operands.lean ====
module
public import proofs.«01_k».proof.Proof.Knn
public import proofs.«01_k».proof.Proof.Latent
public import Idealize.ShloMosaic.Lib.KernelVsHost
@[expose] public section
set_option maxRecDepth 16384

/-! The kernel's operands: what each window holds, in terms of the arguments. -/

noncomputable section
open Idealize.ShloMosaic Idealize.ShloMosaic.TcCoe Idealize.SL.Sem
open Idealize.ShloMosaic.Pipeline (Dat)

namespace Cert.KernelIdeal.Value
open Cert.KernelIdeal Cert.KernelIdeal.Gen Cert.Own

/-- The first weights, laid out by in-plane offset and filled up with zeros from two channels to eight. -/
def laid1 (w : Vec Ideal S16x2x3x3x3 .f32) : Vec Ideal S144x24 .f32 :=
  shapeCast S144x24 (pad S3x3x16x3x8 ![0, 0, 0, 0, 0] ![0, 0, 0, 0, 6] ![0, 0, 0, 0, 0]
    (transpose S3x3x16x3x2 [3, 4, 0, 2, 1] w transposes_S16x2x3x3x3_S3x3x16x3x2_3_4_0_2_1) (sitofp (F := Ideal) .f32 (constantI S_ 32 0#32))
    pads_S3x3x16x3x2_S3x3x16x3x8_000_000_000_000_060 h_S_) shapeCasts_S3x3x16x3x8_S144x24

/-- The second weights, laid out by in-plane offset. -/
def laid2 (w : Vec Ideal S32x16x3x3x3 .f32) : Vec Ideal S288x48 .f32 :=
  shapeCast S288x48 (transpose S3x3x32x3x16 [3, 4, 0, 2, 1] w transposes_S32x16x3x3x3_S3x3x32x3x16_3_4_0_2_1) shapeCasts_S3x3x32x3x16_S288x48

/-- The two input grids as rows, filled up with zero rows. -/
def rows (a b : Vec Ideal S1x1x16x32x32 .f32) : Vec Ideal S8x16384 .f32 :=
  pad S8x16384 ![0, 0] ![6, 0] ![0, 0] (shapeCast S2x16384 (concatenate S1x2x16x32x32 1 [⟨S1x1x16x32x32, a⟩, ⟨S1x1x16x32x32, b⟩]
    concatenates_S1x1x16x32x32_S1x1x16x32x32_S1x2x16x32x32_d1) shapeCasts_S1x2x16x32x32_S2x16384) (sitofp (F := Ideal) .f32 (constantI S_ 32 0#32))
    pads_S2x16384_S8x16384_060_000 h_S_

/-- The integer zero as a real. -/
theorem zero_word : (sitofp (F := Ideal) .f32 (constantI S_ 32 0#32)) (Shape.Idx.first h_S_) = (0 : EReal) := by
  show (((0#32 : BitVec 32).toInt : ℝ) : EReal) = 0
  simp

/-- The second weights as laid out, read back. -/
theorem laid2_apply (w : Vec Ideal S32x16x3x3x3 .f32) (r : Fin 32) (i : Fin 16) (ez ey ex : Fin 3) :
    wt2 (laid2 w) r i ez ey ex = w (ix5 r i ez ey ex) := by
  unfold wt2 weightOf laid2
  refine (shapeCast_apply _ _ _ (ix5 ey ex r ez i) ?_).trans ?_
  · rw [Shape.rowMajor_val_five, Shape.rowMajor_val_two]
    show (((ey.val * 3 + ex.val) * 32 + r.val) * 3 + ez.val) * 16 + i.val = (32 * (3 * ey.val + ex.val) + r.val) * 48 + (ez.val * 16 + i.val)
    ring
  · pointwise

/-- The first weights as laid out, before the padding is read. -/
theorem laid1_pad (w : Vec Ideal S16x2x3x3x3 .f32) (r : Fin 16) (i : Fin 8) (ez ey ex : Fin 3) :
    wt1 (laid1 w) r i ez ey ex = pad S3x3x16x3x8 ![0, 0, 0, 0, 0] ![0, 0, 0, 0, 6] ![0, 0, 0, 0, 0]
    (transpose S3x3x16x3x2 [3, 4, 0, 2, 1] w transposes_S16x2x3x3x3_S3x3x16x3x2_3_4_0_2_1) (sitofp (F := Ideal) .f32 (constantI S_ 32 0#32))
    pads_S3x3x16x3x2_S3x3x16x3x8_000_000_000_000_060 h_S_ (ix5 ey ex r ez i) := by
  unfold wt1 weightOf laid1
  refine shapeCast_apply _ _ _ (ix5 ey ex r ez i) ?_
  rw [Shape.rowMajor_val_five, Shape.rowMajor_val_two]
  show (((ey.val * 3 + ex.val) * 16 + r.val) * 3 + ez.val) * 8 + i.val = (16 * (3 * ey.val + ex.val) + r.val) * 24 + (ez.val * 8 + i.val)
  ring

/-- The two channels' weights. -/
theorem laid1_apply (w : Vec Ideal S16x2x3x3x3 .f32) (r : Fin 16) (i : Fin 2) (ez ey ex : Fin 3) :
    wt1 (laid1 w) r (Fin.castLE (by omega) i) ez ey ex = w (ix5 r i ez ey ex) := by
  rw [laid1_pad]
  refine (pad_apply_of_inside _ _ _ _ _ _ _ _ (ix5 ey ex r ez i) ?_).trans ?_
  · intro a
    match a with
    | ⟨0, _⟩ => show ey.val = 0 + ey.val * 1; omega
    | ⟨1, _⟩ => show ex.val = 0 + ex.val * 1; omega
    | ⟨2, _⟩ => show r.val = 0 + r.val * 1; omega
    | ⟨3, _⟩ => show ez.val = 0 + ez.val * 1; omega
    | ⟨4, _⟩ => show i.val = 0 + i.val * 1; omega
  · pointwise

/-- The other channels' weights are zero. -/
theorem laid1_zero (w : Vec Ideal S16x2x3x3x3 .f32) (r : Fin 16) (i : Fin 8) (hi : 2 ≤ i.val) (ez ey ex : Fin 3) :
    wt1 (laid1 w) r i ez ey ex = 0 := by
  rw [laid1_pad]
  refine (pad_apply_of_not_inside _ _ _ _ _ _ _ _ (4 : Fin 5) ?_).trans zero_word
  rintro ⟨-, -, h⟩
  change (i.val - 0) / 1 < 2 at h
  omega

/-- A grid of voxels read as a row. -/
def voxels (a : Vec Ideal S1x1x16x32x32 .f32) (n : Fin 16384) : EReal :=
  a (ix5 0 0 ⟨n.val / 1024, by omega⟩ ⟨n.val / 32 % 32, by omega⟩ ⟨n.val % 32, by omega⟩)

/-- The two channels. -/
def channels (a b : Vec Ideal S1x1x16x32x32 .f32) (i : Fin 2) : Fin 16384 → EReal := if i.val = 0 then voxels a else voxels b

/-- The rows of the two channels. -/
theorem rows_apply (a b : Vec Ideal S1x1x16x32x32 .f32) (i : Fin 2) (n : Fin 16384) :
    rows a b (ix2 (Fin.castLE (by omega) i) n) = channels a b i n := by
  unfold rows
  refine (pad_apply_of_inside _ _ _ _ _ _ _ _ (ix2 i n) ?_).trans ?_
  · intro a
    match a with
    | ⟨0, _⟩ => show i.val = 0 + i.val * 1; omega
    | ⟨1, _⟩ => show n.val = 0 + n.val * 1; omega
  · refine (shapeCast_apply _ _ _ (ix5 0 i ⟨n.val / 1024, by omega⟩ ⟨n.val / 32 % 32, by omega⟩ ⟨n.val % 32, by omega⟩) ?_).trans ?_
    · rw [Shape.rowMajor_val_five, Shape.rowMajor_val_two]
      show (((0 * 2 + i.val) * 16 + n.val / 1024) * 32 + n.val / 32 % 32) * 32 + n.val % 32 = i.val * 16384 + n.val
      omega
    · unfold channels voxels
      match i with
      | ⟨0, _⟩ => pointwise
      | ⟨1, _⟩ => pointwise

/-- Every window but the result's holds its whole array at every point. -/
theorem whole_windows : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] := by
  decide +kernel

variable (m : (ℓ : Loc nD τ sig) → Buf (Elt Ideal) ℓ) (c : Dev nD) (t : Fin cfg0.N)

/-- An argument's contents at launch. -/
abbrev at_launch (b : Ref sig .tc) : Buf (Elt Ideal) ((c : Thread nD τ).loc b) := m ((c : Thread nD τ).loc b)

/-- The channels' rows. -/
theorem window0 : iblk m c 0 t = rows (at_launch m c main_arg0) (at_launch m c main_arg1) := by
  rw [← show V m c main_v2 = rows (at_launch m c main_arg0) (at_launch m c main_arg1) from rfl]
  unfold iblk
  generalize hX : V m c (Pipeline.arrRef spec0 0) = X
  funext i
  refine congrArg X ?_
  blk_ext [whole_windows t]

/-- The first weights. -/
theorem window1 : iblk m c 1 t = laid1 (at_launch m c main_arg2) := by
  rw [← show V m c main_v5 = laid1 (at_launch m c main_arg2) from rfl]
  unfold iblk
  generalize hX : V m c (Pipeline.arrRef spec0 1) = X
  funext i
  refine congrArg X ?_
  blk_ext [whole_windows t]

/-- The second weights. -/
theorem window5 : iblk m c 5 t = laid2 (at_launch m c main_arg6) := by
  rw [← show V m c main_v7 = laid2 (at_launch m c main_arg6) from rfl]
  unfold iblk
  generalize hX : V m c (Pipeline.arrRef spec0 5) = X
  funext i
  refine congrArg X ?_
  blk_ext [whole_windows t]

/-- The first bias. -/
theorem window2 : iblk m c 2 t = shapeCast S16x1 (at_launch m c main_arg3) shapeCasts_S16_S16x1 := by
  rw [← show V m c main_v9 = shapeCast S16x1 (at_launch m c main_arg3) shapeCasts_S16_S16x1 from rfl]
  unfold iblk
  generalize hX : V m c (Pipeline.arrRef spec0 2) = X
  funext i
  refine congrArg X ?_
  blk_ext [whole_windows t]

/-- The first normalisation's scale. -/
theorem window3 : iblk m c 3 t = shapeCast S16x1 (at_launch m c main_arg4) shapeCasts_S16_S16x1 := by
  rw [← show V m c main_v10 = shapeCast S16x1 (at_launch m c main_arg4) shapeCasts_S16_S16x1 from rfl]
  unfold iblk
  generalize hX : V m c (Pipeline.arrRef spec0 3) = X
  funext i
  refine congrArg X ?_
  blk_ext [whole_windows t]

/-- Its shift. -/
theorem window4 : iblk m c 4 t = shapeCast S16x1 (at_launch m c main_arg5) shapeCasts_S16_S16x1 := by
  rw [← show V m c main_v11 = shapeCast S16x1 (at_launch m c main_arg5) shapeCasts_S16_S16x1 from rfl]
  unfold iblk
  generalize hX : V m c (Pipeline.arrRef spec0 4) = X
  funext i
  refine congrArg X ?_
  blk_ext [whole_windows t]

/-- The second bias. -/
theorem window6 : iblk m c 6 t = shapeCast S32x1 (at_launch m c main_arg7) shapeCasts_S32_S32x1 := by
  rw [← show V m c main_v12 = shapeCast S32x1 (at_launch m c main_arg7) shapeCasts_S32_S32x1 from rfl]
  unfold iblk
  generalize hX : V m c (Pipeline.arrRef spec0 6) = X
  funext i
  refine congrArg X ?_
  blk_ext [whole_windows t]

/-- The second normalisation's scale. -/
theorem window7 : iblk m c 7 t = shapeCast S32x1 (at_launch m c main_arg8) shapeCasts_S32_S32x1 := by
  rw [← show V m c main_v13 = shapeCast S32x1 (at_launch m c main_arg8) shapeCasts_S32_S32x1 from rfl]
  unfold iblk
  generalize hX : V m c (Pipeline.arrRef spec0 7) = X
  funext i
  refine congrArg X ?_
  blk_ext [whole_windows t]

/-- Its shift. -/
theorem window8 : iblk m c 8 t = shapeCast S32x1 (at_launch m c main_arg9) shapeCasts_S32_S32x1 := by
  rw [← show V m c main_v14 = shapeCast S32x1 (at_launch m c main_arg9) shapeCasts_S32_S32x1 from rfl]
  unfold iblk
  generalize hX : V m c (Pipeline.arrRef spec0 8) = X
  funext i
  refine congrArg X ?_
  blk_ext [whole_windows t]

/-- The last convolution's weights. -/
theorem window9 : iblk m c 9 t = shapeCast S8x32 (at_launch m c main_arg10) shapeCasts_S8x32x1x1x1_S8x32 := by
  rw [← show V m c main_v8 = shapeCast S8x32 (at_launch m c main_arg10) shapeCasts_S8x32x1x1x1_S8x32 from rfl]
  unfold iblk
  generalize hX : V m c (Pipeline.arrRef spec0 9) = X
  funext i
  refine congrArg X ?_
  blk_ext [whole_windows t]

/-- Its bias. -/
theorem window10 : iblk m c 10 t = shapeCast S8x1 (at_launch m c main_arg11) shapeCasts_S8_S8x1 := by
  rw [← show V m c main_v15 = shapeCast S8x1 (at_launch m c main_arg11) shapeCasts_S8_S8x1 from rfl]
  unfold iblk
  generalize hX : V m c (Pipeline.arrRef spec0 10) = X
  funext i
  refine congrArg X ?_
  blk_ext [whole_windows t]

/-- The labels. -/
theorem window12 : iblk m c 12 t = shapeCast S4096x1 (at_launch m c main_arg13) shapeCasts_S4096_S4096x1 := by
  rw [← show V m c main_v16 = shapeCast S4096x1 (at_launch m c main_arg13) shapeCasts_S4096_S4096x1 from rfl]
  unfold iblk
  generalize hX : V m c (Pipeline.arrRef spec0 12) = X
  funext i
  refine congrArg X ?_
  blk_ext [whole_windows t]

/-- The keys. -/
theorem window11 : iblk m c 11 t = at_launch m c main_arg12 := by
  rw [show at_launch m c main_arg12 = V m c main_arg12 from (V_main_arg12 m c).symm]
  unfold iblk
  generalize hX : V m c (Pipeline.arrRef spec0 11) = X
  funext i
  refine congrArg X ?_
  blk_ext [whole_windows t]

/-- The encoder of the given arrays. -/
def netOf (a b : Vec Ideal S1x1x16x32x32 .f32) (w1 : Vec Ideal S16x2x3x3x3 .f32) (b1 g1 be1 : Vec Ideal S16 .f32)
    (w2 : Vec Ideal S32x16x3x3x3 .f32) (b2 g2 be2 : Vec Ideal S32 .f32) (w3 : Vec Ideal S8x32x1x1x1 .f32) (b3 : Vec Ideal S8 .f32) : Net where
  x := channels a b
  w1 := fun r i ez ey ex => w1 (ix5 r i ez ey ex)
  b1 := fun r => b1 (ix1 r)
  g1 := fun r => g1 (ix1 r)
  be1 := fun r => be1 (ix1 r)
  w2 := fun r i ez ey ex => w2 (ix5 r i ez ey ex)
  b2 := fun r => b2 (ix1 r)
  g2 := fun r => g2 (ix1 r)
  be2 := fun r => be2 (ix1 r)
  w3 := fun r i => w3 (ix5 r i 0 0 0)
  b3 := fun r => b3 (ix1 r)

/-- The encoder of the arguments at launch. -/
def launchNet : Net := netOf (at_launch m c main_arg0) (at_launch m c main_arg1) (at_launch m c main_arg2) (at_launch m c main_arg3)
  (at_launch m c main_arg4) (at_launch m c main_arg5) (at_launch m c main_arg6) (at_launch m c main_arg7) (at_launch m c main_arg8)
  (at_launch m c main_arg9) (at_launch m c main_arg10) (at_launch m c main_arg11)

/-- What the first point stores: the encoder's normalised latent vectors. -/
theorem stored_apply (r : Fin 8) (n : Fin 16384) : stored m c (ix2 r n) = (launchNet m c).unit r n := by
  have h0 : (⟨0, by decide⟩ : Fin cfg0.N).val % 16 = 0 := rfl
  rw [stored_eq m c ⟨0, by decide⟩ h0, window0, window1, window2, window3, window4, window5, window6, window7, window8, window9, window10]
  refine unit_of_operands c _ _ _ _ _ _ _ _ _ _ _ _ _ _ _ _ _ _ _ _ _ _ _ _ _ _ _ _ _ _ _ _ _ (launchNet m c)
    (rows_apply _ _) (laid1_zero _) (laid1_apply _) ?_ ?_ ?_ (laid2_apply _) ?_ ?_ ?_ ?_ ?_ r n
  all_goals intros; unfold launchNet netOf; pointwise

/-- A point's columns. -/
theorem cols_apply (X : Vec Ideal S8x16384 .f32) (t : Fin grid0.N) (r : Fin 8) (k : Fin 1024) :
    cols X (grid0.coords t) (ix2 r k)
      = X (ix2 r ⟨1024 * t.val + k.val, by have h1 := lt_of_lt_of_eq t.isLt N_0; have h2 := k.isLt; omega⟩) := by
  have ho : ∀ t : Fin grid0.N, k0_off1 (grid0.coords t) = ![0, 1024 * t.val] := by decide +kernel
  refine View.ld_unit_apply_of X _ _ _ _ _ fun a => ?_
  refine Eq.trans ?_ (congrArg (· + (ix2 (n0 := 8) (n1 := 1024) r k a).val) (congrFun (ho t) a).symm)
  match a with
  | ⟨0, _⟩ => exact (Nat.zero_add _).symm
  | ⟨1, _⟩ => rfl

/-- The squared distance of voxel `n` to key `i`. -/
def launchDist (n : Fin 16384) (i : Fin 4096) : EReal := (launchNet m c).dist (fun r => at_launch m c main_arg12 (ix2 i r)) n

/-- The kernel's result at voxel `n`: the answer from its ten nearest keys. -/
theorem result_apply (n : Fin 16384) (e : ℕ → Fin 4096) (h : Smallest (launchDist m c n) e) :
    G13 m c (ix1 n) = answer (launchDist m c n) (fun i => at_launch m c main_arg13 (ix1 i)) e := by
  rw [G13_apply, window11, window12]
  have hn : (⟨1024 * (n.val / 1024) + n.val % 1024, by omega⟩ : Fin 16384) = n := Fin.ext (Nat.div_add_mod _ _)
  have hd : ∀ i, k0_pay56 (cols (stored m c) (grid0.coords ⟨n.val / 1024, by have := n.isLt; rw [show grid0.N = 16 from N_0]; omega⟩)) (at_launch m c main_arg12) (ix2 i ⟨n.val % 1024, by omega⟩)
      = launchDist m c n i := fun i => by
    rw [distances]
    simp only [cols_apply, stored_apply, hn]
    rfl
  have hf := funext hd
  refine (look_apply (e := e) _ _ _ _ (by rw [hf]; exact h)).trans ?_
  rw [hf]
  refine congrArg (fun l => answer (launchDist m c n) l e) (funext fun i => ?_)
  pointwise

end Cert.KernelIdeal.Value
-- ==== Proof.Encode1.lean ====
module
public import proofs.«01_k».proof.Proof.RefSums
public import proofs.«01_k».proof.Proof.Operands
public import Idealize.ShloMosaic.Lib.KernelVsHost
public import proofs.«01_k».proof.Proof.Gen.ReferenceIdeal.Run
@[expose] public section
set_option maxRecDepth 16384

/-! The reference's first convolution layer: the bordered input, the convolution, the normalised layer. -/

noncomputable section
open Idealize.ShloMosaic Idealize.ShloMosaic.TcCoe Idealize.SL.Sem Idealize.ShloMosaic.StableHlo

namespace Cert.ReferenceIdeal.Value
open Cert.ReferenceIdeal Cert.ReferenceIdeal.Gen Cert.Own

variable (V0 : Valuation τ sig (Elt Ideal))

/-- The encoder of the reference's arguments. -/
def refNet : Net := Cert.KernelIdeal.Value.netOf (V0 (Proc.devRef .tc main_arg0)) (V0 (Proc.devRef .tc main_arg1))
  (V0 (Proc.devRef .tc main_arg2)) (V0 (Proc.devRef .tc main_arg3)) (V0 (Proc.devRef .tc main_arg4))
  (V0 (Proc.devRef .tc main_arg5)) (V0 (Proc.devRef .tc main_arg6)) (V0 (Proc.devRef .tc main_arg7))
  (V0 (Proc.devRef .tc main_arg8)) (V0 (Proc.devRef .tc main_arg9)) (V0 (Proc.devRef .tc main_arg10))
  (V0 (Proc.devRef .tc main_arg11))

/-- The integer zero as a number. -/
theorem zero_int : (sitofp (F := Ideal) .f32 (constantI S_ 32 0#32)) ix0 = (0 : EReal) := by
  show (((0#32 : BitVec 32).toInt : ℝ) : EReal) = 0
  simp

/-- The bordered input. -/
theorem border1 (i : Fin 2) (a : Fin 18) (b e : Fin 34) :
    res_main_v7 V0 (ix4 i a b e) = padded ((refNet V0).x i) a.val b.val e.val := by
  refine bordered _ _ _ _ _ zero_int (fun i n => ?_) i a b e
  match i with
  | ⟨0, _⟩ => pointwise; rfl
  | ⟨1, _⟩ => pointwise; rfl

/-- The bordered volume's copies shifted along planes. -/
theorem planes1 (i : Fin 2) (ez : Fin 3) (z : Fin 16) (b e : Fin 34) :
    res_main_v14 V0 (ix5 i ez z b e) = res_main_v7 V0 (ix4 i ⟨ez.val + z.val, by omega⟩ b e) := by
  unfold res_main_v14
  generalize res_main_v7 V0 = P
  match ez with
  | ⟨0, _⟩ => pointwise
  | ⟨1, _⟩ => pointwise
  | ⟨2, _⟩ => pointwise

/-- Their copies shifted along lines. -/
theorem lines1 (i : Fin 2) (ez ey : Fin 3) (z : Fin 16) (y : Fin 32) (e : Fin 34) :
    res_main_v21 V0 (ix6 i ez ey z y e) = res_main_v14 V0 (ix5 i ez z ⟨ey.val + y.val, by omega⟩ e) := by
  unfold res_main_v21
  generalize res_main_v14 V0 = P
  match ey with
  | ⟨0, _⟩ => pointwise
  | ⟨1, _⟩ => pointwise
  | ⟨2, _⟩ => pointwise

/-- The convolution with its bias, at a voxel. -/
theorem conv1_apply (r : Fin 16) (n : Fin 16384) :
    res_main_v33 V0 (voxel r n) = (convAt ((refNet V0).w1 r) (refNet V0).x n + (refNet V0).b1 r : EReal) := by
  unfold res_main_v33
  generalize hC : concatenate S2x3x3x3x16x32x32 3 _ _ = C
  refine congrArg₂ (· + ·) (Eq.trans ?_ (stacked_conv dot_S16x2x3x3x3_S2x3x3x3x16x32x32_S16x16x32x32_1432_0321_0_456_n_n_wf
    (refNet V0).x _ _ _ _ C (border1 V0) (planes1 V0) (lines1 V0) ?_ r n)) ?_
  · unfold voxel
    pointwise
    rfl
  · intro i ez ey ex z y v
    rw [← hC]
    generalize res_main_v21 V0 = P
    match ex with
    | ⟨0, _⟩ => pointwise
    | ⟨1, _⟩ => pointwise
    | ⟨2, _⟩ => pointwise
  · unfold voxel
    pointwise
    rfl

/-- The convolution less its mean over the voxels. -/
theorem centred1 (r : Fin 16) (n : Fin 16384) :
    res_main_call1_v5 V0 (voxel r n) = HSub.hSub (α := EReal) (β := EReal) (res_main_v33 V0 (voxel r n)) (meanOf fun k => res_main_v33 V0 (voxel r k)) := by
  unfold res_main_call1_v5 meanOf
  generalize res_main_v33 V0 = P
  rw [← channel_sum reducesTo_S1x16x16x32x32_S16_d0_2_3_4]
  unfold voxel
  pointwise

/-- The number of voxels the variance is divided by. -/
theorem count1 : res_main_call1_v8 V0 ix0 = Ideal.ofBits FTy.f32 1182793728#32 := by
  unfold res_main_call1_v8
  refine Eq.trans (congrArg (Ideal.ofBits FTy.f32 1182793728#32 - ·) ?_) (sub_zero (_ : EReal))
  exact zero_int

/-- The bordered first layer. -/
theorem border2 (i : Fin 16) (a : Fin 18) (b e : Fin 34) :
    res_main_v54 V0 (ix4 i a b e) = padded ((refNet V0).layer1 i) a.val b.val e.val := by
  unfold res_main_v54
  refine bordered _ _ _ _ _ zero_int (fun i n => ?_) i a b e
  have hQ := centred1 V0 i
  have hR := count1 V0
  have hP := conv1_apply V0 i
  generalize res_main_v33 V0 = P at hP hQ ⊢
  generalize res_main_call1_v5 V0 = Q at hQ ⊢
  generalize res_main_call1_v8 V0 = R at hR ⊢
  unfold Net.layer1
  simp only [← hP]
  pointwise
  exact normalised reducesTo_S1x16x16x32x32_S16_d0_2_3_4 P Q _ _ _ _ _ i n rfl hR hQ

end Cert.ReferenceIdeal.Value
-- ==== Proof.Encode2.lean ====
module
public import proofs.«01_k».proof.Proof.Encode1
@[expose] public section
set_option maxRecDepth 16384

/-! The reference's second convolution layer, the latent vectors, and the distances to the keys. -/

noncomputable section
open Idealize.ShloMosaic Idealize.ShloMosaic.TcCoe Idealize.SL.Sem Idealize.ShloMosaic.StableHlo

namespace Cert.ReferenceIdeal.Value
open Cert.ReferenceIdeal Cert.ReferenceIdeal.Gen Cert.Own

variable (V0 : Valuation τ sig (Elt Ideal))

/-- The bordered volume's copies shifted along planes. -/
theorem planes2 (i : Fin 16) (ez : Fin 3) (z : Fin 16) (b e : Fin 34) :
    res_main_v61 V0 (ix5 i ez z b e) = res_main_v54 V0 (ix4 i ⟨ez.val + z.val, by omega⟩ b e) := by
  unfold res_main_v61
  generalize res_main_v54 V0 = P
  match ez with
  | ⟨0, _⟩ => pointwise
  | ⟨1, _⟩ => pointwise
  | ⟨2, _⟩ => pointwise

/-- Their copies shifted along lines. -/
theorem lines2 (i : Fin 16) (ez ey : Fin 3) (z : Fin 16) (y : Fin 32) (e : Fin 34) :
    res_main_v68 V0 (ix6 i ez ey z y e) = res_main_v61 V0 (ix5 i ez z ⟨ey.val + y.val, by omega⟩ e) := by
  unfold res_main_v68
  generalize res_main_v61 V0 = P
  match ey with
  | ⟨0, _⟩ => pointwise
  | ⟨1, _⟩ => pointwise
  | ⟨2, _⟩ => pointwise

/-- The convolution with its bias, at a voxel. -/
theorem conv2_apply (r : Fin 32) (n : Fin 16384) :
    res_main_v80 V0 (voxel r n) = (convAt ((refNet V0).w2 r) (refNet V0).layer1 n + (refNet V0).b2 r : EReal) := by
  unfold res_main_v80
  generalize hC : concatenate S16x3x3x3x16x32x32 3 _ _ = C
  refine congrArg₂ (· + ·) (Eq.trans ?_ (stacked_conv dot_S32x16x3x3x3_S16x3x3x3x16x32x32_S32x16x32x32_1432_0321_0_456_n_n_wf
    (refNet V0).layer1 _ _ _ _ C (border2 V0) (planes2 V0) (lines2 V0) ?_ r n)) ?_
  · unfold voxel
    pointwise
    rfl
  · intro i ez ey ex z y v
    rw [← hC]
    generalize res_main_v68 V0 = P
    match ex with
    | ⟨0, _⟩ => pointwise
    | ⟨1, _⟩ => pointwise
    | ⟨2, _⟩ => pointwise
  · unfold voxel
    pointwise
    rfl

/-- The convolution less its mean over the voxels. -/
theorem centred2 (r : Fin 32) (n : Fin 16384) :
    res_main_call4_v5 V0 (voxel r n) = HSub.hSub (α := EReal) (β := EReal) (res_main_v80 V0 (voxel r n)) (meanOf fun k => res_main_v80 V0 (voxel r k)) := by
  unfold res_main_call4_v5 meanOf
  generalize res_main_v80 V0 = P
  rw [← channel_sum reducesTo_S1x32x16x32x32_S32_d0_2_3_4]
  unfold voxel
  pointwise

/-- The number of voxels the variance is divided by. -/
theorem count2 : res_main_call4_v8 V0 ix0 = Ideal.ofBits FTy.f32 1182793728#32 := by
  unfold res_main_call4_v8
  refine Eq.trans (congrArg (Ideal.ofBits FTy.f32 1182793728#32 - ·) ?_) (sub_zero (_ : EReal))
  exact zero_int

/-- The latent vector of a voxel. -/
theorem latent_apply (r : Fin 8) (n : Fin 16384) : res_main_v104 V0 (voxel r n) = (refNet V0).latent r n := by
  unfold res_main_v104
  have hQ := centred2 V0
  have hR := count2 V0
  have hP := conv2_apply V0
  generalize res_main_v80 V0 = P at hP hQ ⊢
  generalize res_main_call4_v5 V0 = Q at hQ ⊢
  generalize res_main_call4_v8 V0 = R at hR ⊢
  unfold voxel
  pointwise
  unfold Net.latent Net.layer2
  simp only [← hP]
  refine congrArg₂ (· + ·) (Finset.sum_congr rfl fun x _ => ?_) rfl
  exact (congrArg₂ (· * ·) (normalised reducesTo_S1x32x16x32x32_S32_d0_2_3_4 P Q _ _ _ _ _ x n rfl hR (hQ x)) rfl).trans
    (mul_comm _ _)

/-- The normalised latent vector of a voxel. -/
theorem unit_apply (n : Fin 16384) (r : Fin 8) : res_main_v114 V0 (ix2 n r) = (refNet V0).unit r n := by
  unfold res_main_v114 Net.unit
  have hL := latent_apply V0
  generalize res_main_v104 V0 = P at hL ⊢
  simp only [← hL]
  unfold voxel
  refine (shapeCast_apply _ _ _ (ix5 0 ⟨n.val / 1024, by omega⟩ ⟨n.val / 32 % 32, by omega⟩ ⟨n.val % 32, by omega⟩ r) ?_).trans ?_
  · refine (Shape.rowMajor_val_five _).trans (Eq.trans ?_ (Shape.rowMajor_val_two _).symm)
    show (((0 * 16 + n.val / 1024) * 32 + n.val / 32 % 32) * 32 + n.val % 32) * 8 + r.val = n.val * 8 + r.val
    omega
  · pointwise

/-- Less the squared distance of a voxel to a key. -/
theorem dist_apply (n : Fin 16384) (i : Fin 4096) :
    res_main_v125 V0 (ix2 n i)
      = Neg.neg (α := EReal) ((refNet V0).dist (fun r => (V0 (Proc.devRef .tc main_arg12) : Vec Ideal S4096x8 .f32) (ix2 i r)) n) := by
  unfold res_main_v125 Net.dist
  have hU := unit_apply V0 n
  generalize res_main_v114 V0 = P at hU ⊢
  simp only [← hU]
  pointwise
  simp only [mul_comm]

end Cert.ReferenceIdeal.Value
-- ==== Proof.TopK.lean ====
module
public import Idealize.ShloMosaic.Lib.Pointwise
public import Idealize.ShloMosaic.Lib.SortFacts
public import proofs.«01_k».proof.Proof.Selection
@[expose] public section
set_option maxRecDepth 16384

/-! The reference's top-k of negated distances, row by row: which columns it takes, in which order. -/

noncomputable section
open Idealize.ShloMosaic

namespace Cert.Own

/-- Whether `a` is greater than `b`, as the sort asks it. -/
def gtB (a b : EReal) : Bool := FloatOps.cmpfTotal (F := Ideal) (φ := .f32) .gt a b == 1#1

theorem gtB_iff (a b : EReal) : gtB a b = true ↔ b < a := by
  show (BitVec.ofBool (decide (b < a)) == 1#1) = true ↔ _
  by_cases h : b < a <;> simp [h]

theorem gtB_false (a b : EReal) : gtB a b = false ↔ a ≤ b := by
  rw [← not_iff_not, Bool.not_eq_false, gtB_iff, not_le]

/-- The columns of one row of values, greatest first, equal ones in column order. -/
def order (x : Fin 4096 → EReal) : Fin 4096 → Fin 4096 := sortedFrom fun k k' => gtB (x k) (x k')

/-- Every column is at some position. -/
theorem order_surjective (x : Fin 4096 → EReal) : Function.Surjective (order x) := sortedFrom_surjective _

/-- A later position's value is not greater. -/
theorem order_le (x : Fin 4096 → EReal) (i j : Fin 4096) (hij : i ≤ j) : x (order x j) ≤ x (order x i) := by
  rcases lt_or_eq_of_le hij with h | h
  · refine (gtB_false _ _).mp ?_
    refine sortedFrom_noInversion (fun k k' => gtB (x k) (x k')) (fun k k' => gtB (x k) (x k')) ?_ (fun _ _ h => h) ?_ i j h
    · intro a b hab
      exact (gtB_false _ _).mpr ((gtB_iff _ _).mp hab).le
    · intro a b c hab hbc
      exact (gtB_false _ _).mpr (((gtB_false _ _).mp hab).trans ((gtB_false _ _).mp hbc))
  · rw [h]

/-- A position of the short result as a column position. -/
def posn {k : ℕ} (hk : k ≤ 4096) (j : Fin k) : Fin 4096 := ⟨j.val, by omega⟩

/-- Putting a column into an index of a 16384 × 4096 array. -/
theorem along_row (r : Fin 16384) (p c : Fin 4096) :
    Shape.Idx.along (s := ⟨2, ![16384, 4096]⟩) (ix2 r p) (1 : Fin 2) c = ix2 r c := by
  funext a
  match a with
  | ⟨0, _⟩ => rfl
  | ⟨1, _⟩ => rfl

/-- The place in the sorted array a place of the short result is read at. -/
theorem slice_place {k : ℕ} (hk : k ≤ 4096)
    (h : (⟨2, ![16384, 4096]⟩ : Shape).Slices (fun _ => 0) ⟨2, ![16384, k]⟩) (r : Fin 16384) (j : Fin k) :
    (fun a => ⟨0 + (ix2 r j (a.cast h.1.symm)).val, Nat.lt_of_lt_of_le (Nat.add_lt_add_left (Fin.isLt _) _) (h.2 a)⟩ :
      (⟨2, ![16384, 4096]⟩ : Shape).Idx) = ix2 r (posn hk j) := by
  funext a
  match a with
  | ⟨0, _⟩ => exact Fin.ext (Nat.zero_add _)
  | ⟨1, _⟩ => exact Fin.ext (Nat.zero_add _)

/-- The sort's permutation of row `r`: the row's columns, greatest value first. -/
theorem sorted_row (x : FVec Ideal ⟨2, ![16384, 4096]⟩ .f32) (r : Fin 16384) (p : Fin 4096) :
    sortedFrom (fun k k' : Fin 4096 => FloatOps.cmpfTotal (F := Ideal) (φ := .f32) .gt
        (x (Shape.Idx.along (s := ⟨2, ![16384, 4096]⟩) (ix2 r p) (1 : Fin 2) k))
        (x (Shape.Idx.along (s := ⟨2, ![16384, 4096]⟩) (ix2 r p) (1 : Fin 2) k')) == 1#1) p
      = order (fun c => x (ix2 r c)) p := by
  simp only [along_row]
  rfl

/-- The top-k's values: row `r`, position `j` holds row `r`'s value at the column in that position of the order. -/
theorem topK_fst {k : ℕ} (hk : k ≤ 4096) (x : FVec Ideal ⟨2, ![16384, 4096]⟩ .f32)
    (h : (⟨2, ![16384, 4096]⟩ : Shape).Slices (fun _ => 0) ⟨2, ![16384, k]⟩) (r : Fin 16384) (j : Fin k) :
    (Host.topK ⟨2, ![16384, k]⟩ 1 (FloatOps.cmpfTotal (F := Ideal) (φ := .f32) .gt) x h).1 (ix2 r j)
      = x (ix2 r (order (fun c => x (ix2 r c)) (posn hk j))) := by
  have e := slice_place hk h r j
  unfold Host.topK extractStridedSlice
  dsimp only
  rw [e]
  show x (Shape.Idx.along (s := ⟨2, ![16384, 4096]⟩) (ix2 r (posn hk j)) (1 : Fin 2) _) = _
  refine (congrArg x (along_row r (posn hk j) _)).trans ?_
  exact congrArg (fun c => x (ix2 r c)) (sorted_row x r (posn hk j))

/-- The top-k's columns: row `r`, position `j` holds, as a word, the column in that position of the order. -/
theorem topK_snd {k : ℕ} (hk : k ≤ 4096) (x : FVec Ideal ⟨2, ![16384, 4096]⟩ .f32)
    (h : (⟨2, ![16384, 4096]⟩ : Shape).Slices (fun _ => 0) ⟨2, ![16384, k]⟩) (r : Fin 16384) (j : Fin k) :
    (Host.topK ⟨2, ![16384, k]⟩ 1 (FloatOps.cmpfTotal (F := Ideal) (φ := .f32) .gt) x h).2 (ix2 r j)
      = BitVec.ofNat 32 (order (fun c => x (ix2 r c)) (posn hk j)).val := by
  have e := slice_place hk h r j
  unfold Host.topK extractStridedSlice
  dsimp only
  rw [e]
  show BitVec.ofNat 32 (Shape.Idx.along (s := ⟨2, ![16384, 4096]⟩) (ix2 r (posn hk j)) (1 : Fin 2) _ ⟨1, _⟩).val = _
  refine (congrArg (fun J : (⟨2, ![16384, 4096]⟩ : Shape).Idx => BitVec.ofNat 32 (J (1 : Fin 2)).val)
    (along_row r (posn hk j) _)).trans ?_
  exact congrArg (fun c : Fin 4096 => BitVec.ofNat 32 c.val) (sorted_row x r (posn hk j))

/-- The columns of a row of negated values, in the order of the top-k, numbered without a bound. -/
def nearest (x : Fin 4096 → EReal) (j : ℕ) : Fin 4096 := order x ⟨j % 4096, Nat.mod_lt _ (by decide)⟩

/-- If the first eleven of a row's negated values in the top-k's order are strictly decreasing, the columns in that order are the
places of the eleven smallest values. -/
theorem nearest_smallest (d x : Fin 4096 → EReal) (hx : ∀ c, x c = -d c)
    (h : ∀ j, j < 10 → d (nearest x j) < d (nearest x (j + 1))) : Smallest d (nearest x) := by
  refine ⟨h, fun i => ?_⟩
  obtain ⟨k, rfl⟩ := order_surjective x i
  by_cases hk : k.val ≤ 10
  · exact Or.inl ⟨k.val, hk, congrArg (order x) (Fin.ext (Nat.mod_eq_of_lt k.isLt).symm)⟩
  · refine Or.inr ?_
    have := order_le x ⟨10 % 4096, Nat.mod_lt _ (by decide)⟩ k (by rw [Fin.le_def]; simp; omega)
    rw [hx, hx, EReal.neg_le_neg_iff] at this
    exact this

end Cert.Own
-- ==== Proof.Precondition.lean ====
module
public import proofs.«01_k».proof.Proof.Encode2
public import proofs.«01_k».proof.Proof.TopK
public import proofs.«01_k».proof.Proof.Gen.Pre_eleven_nearest_distinct
@[expose] public section
set_option maxRecDepth 16384

/-! What the precondition says of the distances: at every voxel, the eleven nearest keys are at different distances. -/

noncomputable section
open Idealize.ShloMosaic Idealize.ShloMosaic.TcCoe Idealize.SL.Sem Idealize.ShloMosaic.StableHlo

namespace Cert.ReferenceIdeal.Value
open Cert.ReferenceIdeal Cert.ReferenceIdeal.Gen Cert.Own

variable (V0 : Valuation τ sig (Elt Ideal))

/-- The precondition of the reference's arguments. -/
def pre : IVec Cert.Pre_eleven_nearest_distinct.S16384x10 1 :=
  Cert.Pre_eleven_nearest_distinct.fn (F := Ideal) (V0 (Proc.devRef .tc main_arg0)) (V0 (Proc.devRef .tc main_arg1))
    (V0 (Proc.devRef .tc main_arg2)) (V0 (Proc.devRef .tc main_arg3)) (V0 (Proc.devRef .tc main_arg4))
    (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10))
    (V0 (Proc.devRef .tc main_arg11)) (V0 (Proc.devRef .tc main_arg12)) (V0 (Proc.devRef .tc main_arg13))
    (V0 (Proc.devRef .tc main_arg14)) (V0 (Proc.devRef .tc main_arg15))

open Cert.Pre_eleven_nearest_distinct Cert.Pre_eleven_nearest_distinct.Facts in
/-- The precondition's array of distances is the reference's. -/
theorem pre_eq : pre V0 = Cert.Pre_eleven_nearest_distinct.fn_part6 (F := Ideal)
    (Host.negf (Host.topK Cert.Pre_eleven_nearest_distinct.S16384x11 1 (FloatOps.cmpfTotal (F := Ideal) (φ := .f32) .gt)
      (res_main_v125 V0) sliceFits_S16384x4096_S16384x11).1) := by
  rfl

/-- The squared distance of a voxel to a key. -/
def refDist (n : Fin 16384) (i : Fin 4096) : EReal :=
  (refNet V0).dist (fun r => (V0 (Proc.devRef .tc main_arg12) : Vec Ideal S4096x8 .f32) (ix2 i r)) n

/-- A voxel's keys, nearest first, in the order the reference takes them. -/
def refNearest (n : Fin 16384) : ℕ → Fin 4096 := nearest fun i => res_main_v125 V0 (ix2 n i)

/-- A position below 4096 numbered without a bound. -/
theorem nearest_posn (x : Fin 4096 → EReal) {k : ℕ} (hk : k ≤ 4096) (j : Fin k) : order x (posn hk j) = nearest x j.val :=
  congrArg (order x) (Fin.ext (Nat.mod_eq_of_lt (by have := j.isLt; omega)).symm)

/-- The distance at a place of the order. -/
theorem nearest_dist (n : Fin 16384) {k : ℕ} (hk : k ≤ 4096) (j : Fin k) :
    Neg.neg (α := EReal) (res_main_v125 V0 (ix2 n (order (fun c => res_main_v125 V0 (ix2 n c)) (posn hk j))))
      = refDist V0 n (refNearest V0 n j.val) := by
  rw [nearest_posn, dist_apply]
  exact neg_neg _

/-- Under the precondition, a voxel's first eleven keys in the order are its eleven nearest, at strictly increasing distances. -/
theorem smallest_of_pre (h : pre V0 = fun _ => 1#1) (n : Fin 16384) : Smallest (refDist V0 n) (refNearest V0 n) := by
  refine nearest_smallest _ _ (fun i => dist_apply V0 n i) fun j hj => ?_
  have h2 := (congrFun (pre_eq V0) (ix2 n ⟨j, hj⟩)).symm.trans (congrFun h _)
  have e0 := topK_fst (k := 11) (by decide) (res_main_v125 V0) Cert.Pre_eleven_nearest_distinct.Facts.sliceFits_S16384x4096_S16384x11 n ⟨j, by omega⟩
  have e1 := topK_fst (k := 11) (by decide) (res_main_v125 V0) Cert.Pre_eleven_nearest_distinct.Facts.sliceFits_S16384x4096_S16384x11 n ⟨j + 1, by omega⟩
  have d0 := nearest_dist V0 n (k := 11) (by decide) ⟨j, by omega⟩
  have d1 := nearest_dist V0 n (k := 11) (by decide) ⟨j + 1, by omega⟩
  rw [← e0] at d0
  rw [← e1] at d1
  unfold Cert.Pre_eleven_nearest_distinct.fn_part6 at h2
  generalize (Host.topK Cert.Pre_eleven_nearest_distinct.S16384x11 1 (FloatOps.cmpfTotal (F := Ideal) (φ := .f32) .gt)
      (res_main_v125 V0) Cert.Pre_eleven_nearest_distinct.Facts.sliceFits_S16384x4096_S16384x11).1 = T at h2 d0 d1
  have i0 : (fun a => ⟨(![0, 0] : Fin 2 → ℕ) a + (ix2 n (⟨j, hj⟩ : Fin 10) a).val, by
      match a with
      | ⟨0, _⟩ => show 0 + n.val < 16384; omega
      | ⟨1, _⟩ => show 0 + j < 11; omega⟩ : (⟨2, ![16384, 11]⟩ : Shape).Idx) = ix2 n ⟨j, by omega⟩ :=
    funext fun a => match a with
      | ⟨0, _⟩ => Fin.ext (Nat.zero_add _)
      | ⟨1, _⟩ => Fin.ext (Nat.zero_add _)
  have i1 : (fun a => ⟨(![0, 1] : Fin 2 → ℕ) a + (ix2 n (⟨j, hj⟩ : Fin 10) a).val, by
      match a with
      | ⟨0, _⟩ => show 0 + n.val < 16384; omega
      | ⟨1, _⟩ => show 1 + j < 11; omega⟩ : (⟨2, ![16384, 11]⟩ : Shape).Idx) = ix2 n ⟨j + 1, by omega⟩ :=
    funext fun a => match a with
      | ⟨0, _⟩ => Fin.ext (Nat.zero_add _)
      | ⟨1, _⟩ => Fin.ext (Nat.add_comm _ _)
  have h3 : BitVec.ofBool (decide (Neg.neg (α := EReal) (T (fun a => ⟨(![0, 0] : Fin 2 → ℕ) a + (ix2 n (⟨j, hj⟩ : Fin 10) a).val, _⟩))
      < Neg.neg (α := EReal) (T (fun a => ⟨(![0, 1] : Fin 2 → ℕ) a + (ix2 n (⟨j, hj⟩ : Fin 10) a).val, _⟩)))) = 1#1 := h2
  rw [i0, i1] at h3
  rw [show refDist V0 n (nearest (fun c => res_main_v125 V0 (ix2 n c)) j) = _ from d0.symm,
    show refDist V0 n (nearest (fun c => res_main_v125 V0 (ix2 n c)) (j + 1)) = _ from d1.symm]
  by_contra hlt
  rw [decide_eq_false hlt] at h3
  exact absurd h3 (by decide)

end Cert.ReferenceIdeal.Value
-- ==== Proof.Answer.lean ====
module
public import proofs.«01_k».proof.Proof.Precondition
@[expose] public section
set_option maxRecDepth 16384

/-! The reference's result at a voxel: the weighted mean of the labels of its ten nearest keys. -/

noncomputable section
open Idealize.ShloMosaic Idealize.ShloMosaic.TcCoe Idealize.SL.Sem Idealize.ShloMosaic.StableHlo

namespace Cert.ReferenceIdeal.Value
open Cert.ReferenceIdeal Cert.ReferenceIdeal.Gen Cert.Own

variable (V0 : Valuation τ sig (Elt Ideal))

/-- The labels looked up: where a column number is negative, the keys' count is added first. -/
def looked (I : IVec S16384x10 32) : FVec Ideal S16384x10 .f32 :=
  Host.gather gather_S4096_S16384x10x1_S16384x10_n_0_n_n_0_2_1 (V0 (Proc.devRef .tc main_arg13))
    (broadcastInDim S16384x10x1 ![0, 1] bcast_S16384x10_S16384x10x1_0_1
      (select (cmpi .slt I (broadcastInDim S16384x10 ![] bcast_S_S16384x10 (constantI S_ 32 0#32)))
        (addi I (broadcastInDim S16384x10 ![] bcast_S_S16384x10 (constantI S_ 32 4096#32))) I))

/-- The reference's result. -/
def refOut : FVec Ideal S16384 .f32 :=
  Host.divf (Host.reduceAdd (mulf (res_main_v129 V0) (looked V0 (res_main_indices V0))) (constant S_ .f32 0x00000000#32) reducesTo_S16384x10_S16384_d1 h_S_)
    (addf (Host.reduceAdd (res_main_v129 V0) (constant S_ .f32 0x00000000#32) reducesTo_S16384x10_S16384_d1 h_S_)
      (broadcastInDim S16384 ![] bcast_S_S16384 (constant S_ .f32 0x322BCC77#32)))

/-- A neighbour's weight. -/
theorem weight_apply (n : Fin 16384) (j : Fin 10) :
    res_main_v129 V0 (ix2 n j) = soft (refDist V0 n (refNearest V0 n j.val)) := by
  have h := nearest_dist V0 n (k := 10) (by decide) j
  have e := topK_fst (k := 10) (by decide) (res_main_v125 V0) sliceFits_S16384x4096_S16384x10 n j
  rw [← e] at h
  unfold res_main_v129 soft
  rw [← h]
  generalize (Host.topK _ _ _ _ _).1 = T
  pointwise

/-- A neighbour's column number. -/
theorem index_apply (n : Fin 16384) (j : Fin 10) :
    res_main_indices V0 (ix2 n j) = BitVec.ofNat 32 (refNearest V0 n j.val).val := by
  unfold res_main_indices
  rw [topK_snd (by decide), nearest_posn]
  rfl

/-- A neighbour's label. -/
theorem looked_apply (I : IVec S16384x10 32) (n : Fin 16384) (j : Fin 10) (e : Fin 4096) (h : I (ix2 n j) = BitVec.ofNat 32 e.val) :
    looked V0 I (ix2 n j) = (V0 (Proc.devRef .tc main_arg13) : Vec Ideal S4096 .f32) (ix1 e) := by
  unfold looked
  refine lookup gather_S4096_S16384x10x1_S16384x10_n_0_n_n_0_2_1_wf _ _ n j e ?_
  have hs : BitVec.slt (I (ix2 n j)) 0#32 = false := by
    rw [h]
    have := e.isLt
    rw [BitVec.slt_eq_decide, BitVec.toInt_eq_toNat_cond, BitVec.toNat_ofNat]
    simp
    split <;> omega
  pointwise
  have hc : IntOp.cmpi CmpIPredicate.slt (I (ix2 n j)) 0#32 = 0#1 := congrArg BitVec.ofBool hs
  rw [hc]
  exact h

/-- The reference's result at voxel `n`. -/
theorem refOut_apply (n : Fin 16384) :
    refOut V0 (ix1 n) = answer (refDist V0 n) (fun i => (V0 (Proc.devRef .tc main_arg13) : Vec Ideal S4096 .f32) (ix1 i)) (refNearest V0 n) := by
  unfold refOut
  have hw := weight_apply V0 n
  have hl := fun j => looked_apply V0 _ n j _ (index_apply V0 n j)
  generalize looked V0 (res_main_indices V0) = L at hl ⊢
  generalize res_main_v129 V0 = W at hw ⊢
  unfold answer
  simp only [← hw, ← hl]
  pointwise

end Cert.ReferenceIdeal.Value
-- ==== Proof.Equation.lean ====
module
public import proofs.«01_k».proof.Proof.Answer
public import proofs.«01_k».proof.Proof.Operands
public import proofs.«01_k».proof.Defs
public import Idealize.ShloMosaic.Lib.Claim
@[expose] public section
set_option maxRecDepth 16384

/-! The kernel's result is the reference's, when the arguments agree and the precondition holds; and the claims that follow. -/

noncomputable section
open Idealize.ShloMosaic Idealize.ShloMosaic.TcCoe Idealize.SL.Sem Idealize.ShloMosaic.StableHlo

namespace Cert.Own
open Cert.KernelIdeal.Value Cert.ReferenceIdeal.Value

/-- The reference's frame: the arguments are kept, and it has no counter to leave raised. -/
theorem frame_ri : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two results agree. -/
theorem results_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : pre (launchContents m' c) = fun _ => 1#1)
    (hnet : refNet (launchContents m' c) = launchNet m c)
    (hkeys : (launchContents m' c (Proc.devRef .tc Cert.ReferenceIdeal.main_arg12) : Vec Ideal Cert.ReferenceIdeal.S4096x8 .f32)
      = at_launch m c Cert.KernelIdeal.main_arg12)
    (hlabels : (launchContents m' c (Proc.devRef .tc Cert.ReferenceIdeal.main_arg13) : Vec Ideal Cert.ReferenceIdeal.S4096 .f32)
      = at_launch m c Cert.KernelIdeal.main_arg13) :
    (refOut (launchContents m' c) : Vec Ideal Cert.ReferenceIdeal.S16384 .f32) = G13 m c := by
  funext i
  obtain ⟨n, rfl⟩ : ∃ n, i = ix1 n := ⟨i 0, funext fun a => match a with | ⟨0, _⟩ => rfl⟩
  have hd : refDist (launchContents m' c) n = launchDist m c n := by
    unfold refDist launchDist
    rw [hnet, hkeys]
  have hs := smallest_of_pre (launchContents m' c) hpre n
  refine (refOut_apply _ n).trans ?_
  rw [hd, hlabels]
  rw [hd] at hs
  exact (result_apply m c n _ hs).symm

/-- The kernel and the reference run to the same result. -/
theorem algebraic : Cert.algebraic_KernelIdeal_ReferenceIdeal_pre_eleven_nearest_distinct (hKernelIdeal := Cert.KernelIdeal.Gen.facts)
    (hReferenceIdeal := Cert.ReferenceIdeal.Gen.facts) (hPre_eleven_nearest_distinct := Cert.Pre_eleven_nearest_distinct.Gen.facts) := by
  intro m g m' g' hpre hagree
  refine ⟨fun c => G13 m c, Cert.KernelIdeal.Value.run m g, ?_⟩
  refine (θ_run Cert.ReferenceIdeal.defs _ _).mono (fun r h c => ⟨(h c).1.trans ?_, (h c).2⟩) (Cert.ReferenceIdeal.Value.run (F := Ideal) m' g')
  obtain ⟨h0, h1, h2, h3, h4, h5, h6, h7, h8, h9, h10, h11, h12, h13, h14, h15⟩ := hagree c
  refine results_eq m m' c ?_ ?_ h12 h13
  · refine Eq.trans ?_ (hpre c)
    unfold pre
    rw [show launchContents m' c (Proc.devRef .tc Cert.ReferenceIdeal.main_arg0) = at_launch m c Cert.KernelIdeal.main_arg0 from h0,
      show launchContents m' c (Proc.devRef .tc Cert.ReferenceIdeal.main_arg1) = at_launch m c Cert.KernelIdeal.main_arg1 from h1,
      show launchContents m' c (Proc.devRef .tc Cert.ReferenceIdeal.main_arg2) = at_launch m c Cert.KernelIdeal.main_arg2 from h2,
      show launchContents m' c (Proc.devRef .tc Cert.ReferenceIdeal.main_arg3) = at_launch m c Cert.KernelIdeal.main_arg3 from h3,
      show launchContents m' c (Proc.devRef .tc Cert.ReferenceIdeal.main_arg4) = at_launch m c Cert.KernelIdeal.main_arg4 from h4,
      show launchContents m' c (Proc.devRef .tc Cert.ReferenceIdeal.main_arg5) = at_launch m c Cert.KernelIdeal.main_arg5 from h5,
      show launchContents m' c (Proc.devRef .tc Cert.ReferenceIdeal.main_arg6) = at_launch m c Cert.KernelIdeal.main_arg6 from h6,
      show launchContents m' c (Proc.devRef .tc Cert.ReferenceIdeal.main_arg7) = at_launch m c Cert.KernelIdeal.main_arg7 from h7,
      show launchContents m' c (Proc.devRef .tc Cert.ReferenceIdeal.main_arg8) = at_launch m c Cert.KernelIdeal.main_arg8 from h8,
      show launchContents m' c (Proc.devRef .tc Cert.ReferenceIdeal.main_arg9) = at_launch m c Cert.KernelIdeal.main_arg9 from h9,
      show launchContents m' c (Proc.devRef .tc Cert.ReferenceIdeal.main_arg10) = at_launch m c Cert.KernelIdeal.main_arg10 from h10,
      show launchContents m' c (Proc.devRef .tc Cert.ReferenceIdeal.main_arg11) = at_launch m c Cert.KernelIdeal.main_arg11 from h11,
      show launchContents m' c (Proc.devRef .tc Cert.ReferenceIdeal.main_arg12) = at_launch m c Cert.KernelIdeal.main_arg12 from h12,
      show launchContents m' c (Proc.devRef .tc Cert.ReferenceIdeal.main_arg13) = at_launch m c Cert.KernelIdeal.main_arg13 from h13,
      show launchContents m' c (Proc.devRef .tc Cert.ReferenceIdeal.main_arg14) = at_launch m c Cert.KernelIdeal.main_arg14 from h14,
      show launchContents m' c (Proc.devRef .tc Cert.ReferenceIdeal.main_arg15) = at_launch m c Cert.KernelIdeal.main_arg15 from h15]
  · unfold refNet launchNet
    rw [show launchContents m' c (Proc.devRef .tc Cert.ReferenceIdeal.main_arg0) = at_launch m c Cert.KernelIdeal.main_arg0 from h0,
      show launchContents m' c (Proc.devRef .tc Cert.ReferenceIdeal.main_arg1) = at_launch m c Cert.KernelIdeal.main_arg1 from h1,
      show launchContents m' c (Proc.devRef .tc Cert.ReferenceIdeal.main_arg2) = at_launch m c Cert.KernelIdeal.main_arg2 from h2,
      show launchContents m' c (Proc.devRef .tc Cert.ReferenceIdeal.main_arg3) = at_launch m c Cert.KernelIdeal.main_arg3 from h3,
      show launchContents m' c (Proc.devRef .tc Cert.ReferenceIdeal.main_arg4) = at_launch m c Cert.KernelIdeal.main_arg4 from h4,
      show launchContents m' c (Proc.devRef .tc Cert.ReferenceIdeal.main_arg5) = at_launch m c Cert.KernelIdeal.main_arg5 from h5,
      show launchContents m' c (Proc.devRef .tc Cert.ReferenceIdeal.main_arg6) = at_launch m c Cert.KernelIdeal.main_arg6 from h6,
      show launchContents m' c (Proc.devRef .tc Cert.ReferenceIdeal.main_arg7) = at_launch m c Cert.KernelIdeal.main_arg7 from h7,
      show launchContents m' c (Proc.devRef .tc Cert.ReferenceIdeal.main_arg8) = at_launch m c Cert.KernelIdeal.main_arg8 from h8,
      show launchContents m' c (Proc.devRef .tc Cert.ReferenceIdeal.main_arg9) = at_launch m c Cert.KernelIdeal.main_arg9 from h9,
      show launchContents m' c (Proc.devRef .tc Cert.ReferenceIdeal.main_arg10) = at_launch m c Cert.KernelIdeal.main_arg10 from h10,
      show launchContents m' c (Proc.devRef .tc Cert.ReferenceIdeal.main_arg11) = at_launch m c Cert.KernelIdeal.main_arg11 from h11]

/-- The kernel's one replaced constant has the value its name is given. -/
theorem preserves : Cert.preserves_Kernel_KernelIdeal :=
  IdealRules.named_const.statement Cert.KernelIdeal.κ "big" .f32 0x7F61B1E6#32 ⊤ rfl

end Cert.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_eleven_nearest_distinct
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_eleven_nearest_distinct.Gen.facts,
  fun m ρ _ => Cert.Kernel.Gen.frame m ρ, fun m ρ _ => Cert.KernelIdeal.Gen.frame m ρ, fun m ρ _ => Cert.KernelIdeal.Gen.frame m ρ,
  Cert.Own.frame_ri, fun m ρ _ => Cert.Own.frame_ri m ρ trivial, Cert.Own.preserves, Cert.Own.algebraic⟩

end Cert.Proof

end
